-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S16x32x512 : Shape := ⟨3, ![16, 32, 512]⟩
abbrev S16 : Shape := ⟨1, ![16]⟩
abbrev S_ : Shape := ⟨0, ![]⟩
abbrev S1 : Shape := ⟨1, ![1]⟩
abbrev S1x32x512 : Shape := ⟨3, ![1, 32, 512]⟩
abbrev S32x512 : Shape := ⟨2, ![32, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x512, .f32⟩
  | .local _ .vmem, ⟨0, _⟩ => ⟨S512x256, .f32⟩
  | .local _ .vmem, ⟨1, _⟩ => ⟨S256x512, .f32⟩
  | .local _ .vmem, ⟨2, _⟩ => ⟨S512x512, .f32⟩
  | .local _ .vmem, ⟨3, _⟩ => ⟨S512x512, .bf16⟩
  | .local _ .vmem, ⟨4, _⟩ => ⟨S16x32x512, .bf16⟩
  | .local _ .vmem, ⟨5, _⟩ => ⟨S16x32x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c1_i32_141 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v208 : BitVec 32 := Scalar.addi v2 c1_i32_141
  let c16_i32_142 : BitVec 32 := 16#32
  let c0_i32_143 : BitVec 32 := 0#32
  let v209 : BitVec 1 := Scalar.cmpi .eq c16_i32_142 c0_i32_143
  let c1_i32_144 : BitVec 32 := 1#32
  let v210 : BitVec 32 := Scalar.select v209 c1_i32_144 c16_i32_142
  let v211 : BitVec 32 := Scalar.remsi v208 v210
  let c0_i32_146 : BitVec 32 := 0#32
  let v213 : BitVec 1 := Scalar.cmpi .slt v211 c0_i32_146
  let c0_i32_147 : BitVec 32 := 0#32
  let v214 : BitVec 1 := Scalar.cmpi .slt v210 c0_i32_147
  let v215 : BitVec 1 := Scalar.xori v213 v214
  let c0_i32_145 : BitVec 32 := 0#32
  let v212 : BitVec 1 := Scalar.cmpi .ne v211 c0_i32_145
  let v216 : BitVec 1 := Scalar.andi v215 v212
  let v217 : BitVec 32 := Scalar.addi v211 v210
  let v218 : BitVec 32 := Scalar.select v216 v217 v211
  ![v218.toNat]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_150 : BitVec 32 := 0#32
  let c0_i32_151 : BitVec 32 := 0#32
  ![v2.toNat, 0, 0]
def k0_off4 (d0 : Dev nD) (c1_i32_141 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v208 : BitVec 32 := Scalar.addi v2 c1_i32_141
  let c16_i32_142 : BitVec 32 := 16#32
  let c0_i32_143 : BitVec 32 := 0#32
  let v209 : BitVec 1 := Scalar.cmpi .eq c16_i32_142 c0_i32_143
  let c1_i32_144 : BitVec 32 := 1#32
  let v210 : BitVec 32 := Scalar.select v209 c1_i32_144 c16_i32_142
  let v211 : BitVec 32 := Scalar.remsi v208 v210
  let c0_i32_146 : BitVec 32 := 0#32
  let v213 : BitVec 1 := Scalar.cmpi .slt v211 c0_i32_146
  let c0_i32_147 : BitVec 32 := 0#32
  let v214 : BitVec 1 := Scalar.cmpi .slt v210 c0_i32_147
  let v215 : BitVec 1 := Scalar.xori v213 v214
  let c0_i32_145 : BitVec 32 := 0#32
  let v212 : BitVec 1 := Scalar.cmpi .ne v211 c0_i32_145
  let v216 : BitVec 1 := Scalar.andi v215 v212
  let v217 : BitVec 32 := Scalar.addi v211 v210
  let v218 : BitVec 32 := Scalar.select v216 v217 v211
  let c32_i32 : BitVec 32 := 32#32
  let v219 : BitVec 32 := Scalar.muli v218 c32_i32
  let c0_i32_152 : BitVec 32 := 0#32
  ![v219.toNat, 0]
def k0_dev16 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_141 : BitVec 32 := 1#32
  let v208 : BitVec 32 := Scalar.addi v2 c1_i32_141
  let c16_i32_142 : BitVec 32 := 16#32
  let c0_i32_143 : BitVec 32 := 0#32
  let v209 : BitVec 1 := Scalar.cmpi .eq c16_i32_142 c0_i32_143
  let c1_i32_144 : BitVec 32 := 1#32
  let v210 : BitVec 32 := Scalar.select v209 c1_i32_144 c16_i32_142
  let v211 : BitVec 32 := Scalar.remsi v208 v210
  let c0_i32_146 : BitVec 32 := 0#32
  let v213 : BitVec 1 := Scalar.cmpi .slt v211 c0_i32_146
  let c0_i32_147 : BitVec 32 := 0#32
  let v214 : BitVec 1 := Scalar.cmpi .slt v210 c0_i32_147
  let v215 : BitVec 1 := Scalar.xori v213 v214
  let c0_i32_145 : BitVec 32 := 0#32
  let v212 : BitVec 1 := Scalar.cmpi .ne v211 c0_i32_145
  let v216 : BitVec 1 := Scalar.andi v215 v212
  let v217 : BitVec 32 := Scalar.addi v211 v210
  let v218 : BitVec 32 := Scalar.select v216 v217 v211
  let c1_i32_148 : BitVec 32 := 1#32
  let v220 : BitVec 32 := Scalar.muli v218 c1_i32_148
  let v221 : BitVec 32 := Scalar.addi c0_i32_149 v220
  v221.toNat
def k0_dev17 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_153 : BitVec 32 := 2#32
  let v229 : BitVec 32 := Scalar.addi v2 c2_i32_153
  let c16_i32_154 : BitVec 32 := 16#32
  let c0_i32_155 : BitVec 32 := 0#32
  let v230 : BitVec 1 := Scalar.cmpi .eq c16_i32_154 c0_i32_155
  let c1_i32_156 : BitVec 32 := 1#32
  let v231 : BitVec 32 := Scalar.select v230 c1_i32_156 c16_i32_154
  let v232 : BitVec 32 := Scalar.remsi v229 v231
  let c0_i32_158 : BitVec 32 := 0#32
  let v234 : BitVec 1 := Scalar.cmpi .slt v232 c0_i32_158
  let c0_i32_159 : BitVec 32 := 0#32
  let v235 : BitVec 1 := Scalar.cmpi .slt v231 c0_i32_159
  let v236 : BitVec 1 := Scalar.xori v234 v235
  let c0_i32_157 : BitVec 32 := 0#32
  let v233 : BitVec 1 := Scalar.cmpi .ne v232 c0_i32_157
  let v237 : BitVec 1 := Scalar.andi v236 v233
  let v238 : BitVec 32 := Scalar.addi v232 v231
  let v239 : BitVec 32 := Scalar.select v237 v238 v232
  let c1_i32_161 : BitVec 32 := 1#32
  let v241 : BitVec 32 := Scalar.muli v239 c1_i32_161
  let v242 : BitVec 32 := Scalar.addi c0_i32_162 v241
  v242.toNat
def k0_dev18 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_166 : BitVec 32 := 3#32
  let v250 : BitVec 32 := Scalar.addi v2 c3_i32_166
  let c16_i32_167 : BitVec 32 := 16#32
  let c0_i32_168 : BitVec 32 := 0#32
  let v251 : BitVec 1 := Scalar.cmpi .eq c16_i32_167 c0_i32_168
  let c1_i32_169 : BitVec 32 := 1#32
  let v252 : BitVec 32 := Scalar.select v251 c1_i32_169 c16_i32_167
  let v253 : BitVec 32 := Scalar.remsi v250 v252
  let c0_i32_171 : BitVec 32 := 0#32
  let v255 : BitVec 1 := Scalar.cmpi .slt v253 c0_i32_171
  let c0_i32_172 : BitVec 32 := 0#32
  let v256 : BitVec 1 := Scalar.cmpi .slt v252 c0_i32_172
  let v257 : BitVec 1 := Scalar.xori v255 v256
  let c0_i32_170 : BitVec 32 := 0#32
  let v254 : BitVec 1 := Scalar.cmpi .ne v253 c0_i32_170
  let v258 : BitVec 1 := Scalar.andi v257 v254
  let v259 : BitVec 32 := Scalar.addi v253 v252
  let v260 : BitVec 32 := Scalar.select v258 v259 v253
  let c1_i32_174 : BitVec 32 := 1#32
  let v262 : BitVec 32 := Scalar.muli v260 c1_i32_174
  let v263 : BitVec 32 := Scalar.addi c0_i32_175 v262
  v263.toNat
def k0_dev19 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_179 : BitVec 32 := 4#32
  let v271 : BitVec 32 := Scalar.addi v2 c4_i32_179
  let c16_i32_180 : BitVec 32 := 16#32
  let c0_i32_181 : BitVec 32 := 0#32
  let v272 : BitVec 1 := Scalar.cmpi .eq c16_i32_180 c0_i32_181
  let c1_i32_182 : BitVec 32 := 1#32
  let v273 : BitVec 32 := Scalar.select v272 c1_i32_182 c16_i32_180
  let v274 : BitVec 32 := Scalar.remsi v271 v273
  let c0_i32_184 : BitVec 32 := 0#32
  let v276 : BitVec 1 := Scalar.cmpi .slt v274 c0_i32_184
  let c0_i32_185 : BitVec 32 := 0#32
  let v277 : BitVec 1 := Scalar.cmpi .slt v273 c0_i32_185
  let v278 : BitVec 1 := Scalar.xori v276 v277
  let c0_i32_183 : BitVec 32 := 0#32
  let v275 : BitVec 1 := Scalar.cmpi .ne v274 c0_i32_183
  let v279 : BitVec 1 := Scalar.andi v278 v275
  let v280 : BitVec 32 := Scalar.addi v274 v273
  let v281 : BitVec 32 := Scalar.select v279 v280 v274
  let c1_i32_187 : BitVec 32 := 1#32
  let v283 : BitVec 32 := Scalar.muli v281 c1_i32_187
  let v284 : BitVec 32 := Scalar.addi c0_i32_188 v283
  v284.toNat
def k0_dev20 (d0 : Dev nD) : Nat :=
  let c0_i32_201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_192 : BitVec 32 := 5#32
  let v292 : BitVec 32 := Scalar.addi v2 c5_i32_192
  let c16_i32_193 : BitVec 32 := 16#32
  let c0_i32_194 : BitVec 32 := 0#32
  let v293 : BitVec 1 := Scalar.cmpi .eq c16_i32_193 c0_i32_194
  let c1_i32_195 : BitVec 32 := 1#32
  let v294 : BitVec 32 := Scalar.select v293 c1_i32_195 c16_i32_193
  let v295 : BitVec 32 := Scalar.remsi v292 v294
  let c0_i32_197 : BitVec 32 := 0#32
  let v297 : BitVec 1 := Scalar.cmpi .slt v295 c0_i32_197
  let c0_i32_198 : BitVec 32 := 0#32
  let v298 : BitVec 1 := Scalar.cmpi .slt v294 c0_i32_198
  let v299 : BitVec 1 := Scalar.xori v297 v298
  let c0_i32_196 : BitVec 32 := 0#32
  let v296 : BitVec 1 := Scalar.cmpi .ne v295 c0_i32_196
  let v300 : BitVec 1 := Scalar.andi v299 v296
  let v301 : BitVec 32 := Scalar.addi v295 v294
  let v302 : BitVec 32 := Scalar.select v300 v301 v295
  let c1_i32_200 : BitVec 32 := 1#32
  let v304 : BitVec 32 := Scalar.muli v302 c1_i32_200
  let v305 : BitVec 32 := Scalar.addi c0_i32_201 v304
  v305.toNat
def k0_dev21 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_205 : BitVec 32 := 6#32
  let v313 : BitVec 32 := Scalar.addi v2 c6_i32_205
  let c16_i32_206 : BitVec 32 := 16#32
  let c0_i32_207 : BitVec 32 := 0#32
  let v314 : BitVec 1 := Scalar.cmpi .eq c16_i32_206 c0_i32_207
  let c1_i32_208 : BitVec 32 := 1#32
  let v315 : BitVec 32 := Scalar.select v314 c1_i32_208 c16_i32_206
  let v316 : BitVec 32 := Scalar.remsi v313 v315
  let c0_i32_210 : BitVec 32 := 0#32
  let v318 : BitVec 1 := Scalar.cmpi .slt v316 c0_i32_210
  let c0_i32_211 : BitVec 32 := 0#32
  let v319 : BitVec 1 := Scalar.cmpi .slt v315 c0_i32_211
  let v320 : BitVec 1 := Scalar.xori v318 v319
  let c0_i32_209 : BitVec 32 := 0#32
  let v317 : BitVec 1 := Scalar.cmpi .ne v316 c0_i32_209
  let v321 : BitVec 1 := Scalar.andi v320 v317
  let v322 : BitVec 32 := Scalar.addi v316 v315
  let v323 : BitVec 32 := Scalar.select v321 v322 v316
  let c1_i32_213 : BitVec 32 := 1#32
  let v325 : BitVec 32 := Scalar.muli v323 c1_i32_213
  let v326 : BitVec 32 := Scalar.addi c0_i32_214 v325
  v326.toNat
def k0_dev22 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_218 : BitVec 32 := 7#32
  let v334 : BitVec 32 := Scalar.addi v2 c7_i32_218
  let c16_i32_219 : BitVec 32 := 16#32
  let c0_i32_220 : BitVec 32 := 0#32
  let v335 : BitVec 1 := Scalar.cmpi .eq c16_i32_219 c0_i32_220
  let c1_i32_221 : BitVec 32 := 1#32
  let v336 : BitVec 32 := Scalar.select v335 c1_i32_221 c16_i32_219
  let v337 : BitVec 32 := Scalar.remsi v334 v336
  let c0_i32_223 : BitVec 32 := 0#32
  let v339 : BitVec 1 := Scalar.cmpi .slt v337 c0_i32_223
  let c0_i32_224 : BitVec 32 := 0#32
  let v340 : BitVec 1 := Scalar.cmpi .slt v336 c0_i32_224
  let v341 : BitVec 1 := Scalar.xori v339 v340
  let c0_i32_222 : BitVec 32 := 0#32
  let v338 : BitVec 1 := Scalar.cmpi .ne v337 c0_i32_222
  let v342 : BitVec 1 := Scalar.andi v341 v338
  let v343 : BitVec 32 := Scalar.addi v337 v336
  let v344 : BitVec 32 := Scalar.select v342 v343 v337
  let c1_i32_226 : BitVec 32 := 1#32
  let v346 : BitVec 32 := Scalar.muli v344 c1_i32_226
  let v347 : BitVec 32 := Scalar.addi c0_i32_227 v346
  v347.toNat
def k0_dev23 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_231 : BitVec 32 := 8#32
  let v355 : BitVec 32 := Scalar.addi v2 c8_i32_231
  let c16_i32_232 : BitVec 32 := 16#32
  let c0_i32_233 : BitVec 32 := 0#32
  let v356 : BitVec 1 := Scalar.cmpi .eq c16_i32_232 c0_i32_233
  let c1_i32_234 : BitVec 32 := 1#32
  let v357 : BitVec 32 := Scalar.select v356 c1_i32_234 c16_i32_232
  let v358 : BitVec 32 := Scalar.remsi v355 v357
  let c0_i32_236 : BitVec 32 := 0#32
  let v360 : BitVec 1 := Scalar.cmpi .slt v358 c0_i32_236
  let c0_i32_237 : BitVec 32 := 0#32
  let v361 : BitVec 1 := Scalar.cmpi .slt v357 c0_i32_237
  let v362 : BitVec 1 := Scalar.xori v360 v361
  let c0_i32_235 : BitVec 32 := 0#32
  let v359 : BitVec 1 := Scalar.cmpi .ne v358 c0_i32_235
  let v363 : BitVec 1 := Scalar.andi v362 v359
  let v364 : BitVec 32 := Scalar.addi v358 v357
  let v365 : BitVec 32 := Scalar.select v363 v364 v358
  let c1_i32_239 : BitVec 32 := 1#32
  let v367 : BitVec 32 := Scalar.muli v365 c1_i32_239
  let v368 : BitVec 32 := Scalar.addi c0_i32_240 v367
  v368.toNat
def k0_dev24 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_244 : BitVec 32 := 9#32
  let v376 : BitVec 32 := Scalar.addi v2 c9_i32_244
  let c16_i32_245 : BitVec 32 := 16#32
  let c0_i32_246 : BitVec 32 := 0#32
  let v377 : BitVec 1 := Scalar.cmpi .eq c16_i32_245 c0_i32_246
  let c1_i32_247 : BitVec 32 := 1#32
  let v378 : BitVec 32 := Scalar.select v377 c1_i32_247 c16_i32_245
  let v379 : BitVec 32 := Scalar.remsi v376 v378
  let c0_i32_249 : BitVec 32 := 0#32
  let v381 : BitVec 1 := Scalar.cmpi .slt v379 c0_i32_249
  let c0_i32_250 : BitVec 32 := 0#32
  let v382 : BitVec 1 := Scalar.cmpi .slt v378 c0_i32_250
  let v383 : BitVec 1 := Scalar.xori v381 v382
  let c0_i32_248 : BitVec 32 := 0#32
  let v380 : BitVec 1 := Scalar.cmpi .ne v379 c0_i32_248
  let v384 : BitVec 1 := Scalar.andi v383 v380
  let v385 : BitVec 32 := Scalar.addi v379 v378
  let v386 : BitVec 32 := Scalar.select v384 v385 v379
  let c1_i32_252 : BitVec 32 := 1#32
  let v388 : BitVec 32 := Scalar.muli v386 c1_i32_252
  let v389 : BitVec 32 := Scalar.addi c0_i32_253 v388
  v389.toNat
def k0_dev25 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_257 : BitVec 32 := 10#32
  let v397 : BitVec 32 := Scalar.addi v2 c10_i32_257
  let c16_i32_258 : BitVec 32 := 16#32
  let c0_i32_259 : BitVec 32 := 0#32
  let v398 : BitVec 1 := Scalar.cmpi .eq c16_i32_258 c0_i32_259
  let c1_i32_260 : BitVec 32 := 1#32
  let v399 : BitVec 32 := Scalar.select v398 c1_i32_260 c16_i32_258
  let v400 : BitVec 32 := Scalar.remsi v397 v399
  let c0_i32_262 : BitVec 32 := 0#32
  let v402 : BitVec 1 := Scalar.cmpi .slt v400 c0_i32_262
  let c0_i32_263 : BitVec 32 := 0#32
  let v403 : BitVec 1 := Scalar.cmpi .slt v399 c0_i32_263
  let v404 : BitVec 1 := Scalar.xori v402 v403
  let c0_i32_261 : BitVec 32 := 0#32
  let v401 : BitVec 1 := Scalar.cmpi .ne v400 c0_i32_261
  let v405 : BitVec 1 := Scalar.andi v404 v401
  let v406 : BitVec 32 := Scalar.addi v400 v399
  let v407 : BitVec 32 := Scalar.select v405 v406 v400
  let c1_i32_265 : BitVec 32 := 1#32
  let v409 : BitVec 32 := Scalar.muli v407 c1_i32_265
  let v410 : BitVec 32 := Scalar.addi c0_i32_266 v409
  v410.toNat
def k0_dev26 (d0 : Dev nD) : Nat :=
  let c0_i32_279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_270 : BitVec 32 := 11#32
  let v418 : BitVec 32 := Scalar.addi v2 c11_i32_270
  let c16_i32_271 : BitVec 32 := 16#32
  let c0_i32_272 : BitVec 32 := 0#32
  let v419 : BitVec 1 := Scalar.cmpi .eq c16_i32_271 c0_i32_272
  let c1_i32_273 : BitVec 32 := 1#32
  let v420 : BitVec 32 := Scalar.select v419 c1_i32_273 c16_i32_271
  let v421 : BitVec 32 := Scalar.remsi v418 v420
  let c0_i32_275 : BitVec 32 := 0#32
  let v423 : BitVec 1 := Scalar.cmpi .slt v421 c0_i32_275
  let c0_i32_276 : BitVec 32 := 0#32
  let v424 : BitVec 1 := Scalar.cmpi .slt v420 c0_i32_276
  let v425 : BitVec 1 := Scalar.xori v423 v424
  let c0_i32_274 : BitVec 32 := 0#32
  let v422 : BitVec 1 := Scalar.cmpi .ne v421 c0_i32_274
  let v426 : BitVec 1 := Scalar.andi v425 v422
  let v427 : BitVec 32 := Scalar.addi v421 v420
  let v428 : BitVec 32 := Scalar.select v426 v427 v421
  let c1_i32_278 : BitVec 32 := 1#32
  let v430 : BitVec 32 := Scalar.muli v428 c1_i32_278
  let v431 : BitVec 32 := Scalar.addi c0_i32_279 v430
  v431.toNat
def k0_dev27 (d0 : Dev nD) : Nat :=
  let c0_i32_292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_283 : BitVec 32 := 12#32
  let v439 : BitVec 32 := Scalar.addi v2 c12_i32_283
  let c16_i32_284 : BitVec 32 := 16#32
  let c0_i32_285 : BitVec 32 := 0#32
  let v440 : BitVec 1 := Scalar.cmpi .eq c16_i32_284 c0_i32_285
  let c1_i32_286 : BitVec 32 := 1#32
  let v441 : BitVec 32 := Scalar.select v440 c1_i32_286 c16_i32_284
  let v442 : BitVec 32 := Scalar.remsi v439 v441
  let c0_i32_288 : BitVec 32 := 0#32
  let v444 : BitVec 1 := Scalar.cmpi .slt v442 c0_i32_288
  let c0_i32_289 : BitVec 32 := 0#32
  let v445 : BitVec 1 := Scalar.cmpi .slt v441 c0_i32_289
  let v446 : BitVec 1 := Scalar.xori v444 v445
  let c0_i32_287 : BitVec 32 := 0#32
  let v443 : BitVec 1 := Scalar.cmpi .ne v442 c0_i32_287
  let v447 : BitVec 1 := Scalar.andi v446 v443
  let v448 : BitVec 32 := Scalar.addi v442 v441
  let v449 : BitVec 32 := Scalar.select v447 v448 v442
  let c1_i32_291 : BitVec 32 := 1#32
  let v451 : BitVec 32 := Scalar.muli v449 c1_i32_291
  let v452 : BitVec 32 := Scalar.addi c0_i32_292 v451
  v452.toNat
def k0_dev28 (d0 : Dev nD) : Nat :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_296 : BitVec 32 := 13#32
  let v460 : BitVec 32 := Scalar.addi v2 c13_i32_296
  let c16_i32_297 : BitVec 32 := 16#32
  let c0_i32_298 : BitVec 32 := 0#32
  let v461 : BitVec 1 := Scalar.cmpi .eq c16_i32_297 c0_i32_298
  let c1_i32_299 : BitVec 32 := 1#32
  let v462 : BitVec 32 := Scalar.select v461 c1_i32_299 c16_i32_297
  let v463 : BitVec 32 := Scalar.remsi v460 v462
  let c0_i32_301 : BitVec 32 := 0#32
  let v465 : BitVec 1 := Scalar.cmpi .slt v463 c0_i32_301
  let c0_i32_302 : BitVec 32 := 0#32
  let v466 : BitVec 1 := Scalar.cmpi .slt v462 c0_i32_302
  let v467 : BitVec 1 := Scalar.xori v465 v466
  let c0_i32_300 : BitVec 32 := 0#32
  let v464 : BitVec 1 := Scalar.cmpi .ne v463 c0_i32_300
  let v468 : BitVec 1 := Scalar.andi v467 v464
  let v469 : BitVec 32 := Scalar.addi v463 v462
  let v470 : BitVec 32 := Scalar.select v468 v469 v463
  let c1_i32_304 : BitVec 32 := 1#32
  let v472 : BitVec 32 := Scalar.muli v470 c1_i32_304
  let v473 : BitVec 32 := Scalar.addi c0_i32_305 v472
  v473.toNat
def k0_dev29 (d0 : Dev nD) : Nat :=
  let c0_i32_318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_309 : BitVec 32 := 14#32
  let v481 : BitVec 32 := Scalar.addi v2 c14_i32_309
  let c16_i32_310 : BitVec 32 := 16#32
  let c0_i32_311 : BitVec 32 := 0#32
  let v482 : BitVec 1 := Scalar.cmpi .eq c16_i32_310 c0_i32_311
  let c1_i32_312 : BitVec 32 := 1#32
  let v483 : BitVec 32 := Scalar.select v482 c1_i32_312 c16_i32_310
  let v484 : BitVec 32 := Scalar.remsi v481 v483
  let c0_i32_314 : BitVec 32 := 0#32
  let v486 : BitVec 1 := Scalar.cmpi .slt v484 c0_i32_314
  let c0_i32_315 : BitVec 32 := 0#32
  let v487 : BitVec 1 := Scalar.cmpi .slt v483 c0_i32_315
  let v488 : BitVec 1 := Scalar.xori v486 v487
  let c0_i32_313 : BitVec 32 := 0#32
  let v485 : BitVec 1 := Scalar.cmpi .ne v484 c0_i32_313
  let v489 : BitVec 1 := Scalar.andi v488 v485
  let v490 : BitVec 32 := Scalar.addi v484 v483
  let v491 : BitVec 32 := Scalar.select v489 v490 v484
  let c1_i32_317 : BitVec 32 := 1#32
  let v493 : BitVec 32 := Scalar.muli v491 c1_i32_317
  let v494 : BitVec 32 := Scalar.addi c0_i32_318 v493
  v494.toNat
def k0_dev30 (d0 : Dev nD) : Nat :=
  let c0_i32_331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_322 : BitVec 32 := 15#32
  let v502 : BitVec 32 := Scalar.addi v2 c15_i32_322
  let c16_i32_323 : BitVec 32 := 16#32
  let c0_i32_324 : BitVec 32 := 0#32
  let v503 : BitVec 1 := Scalar.cmpi .eq c16_i32_323 c0_i32_324
  let c1_i32_325 : BitVec 32 := 1#32
  let v504 : BitVec 32 := Scalar.select v503 c1_i32_325 c16_i32_323
  let v505 : BitVec 32 := Scalar.remsi v502 v504
  let c0_i32_327 : BitVec 32 := 0#32
  let v507 : BitVec 1 := Scalar.cmpi .slt v505 c0_i32_327
  let c0_i32_328 : BitVec 32 := 0#32
  let v508 : BitVec 1 := Scalar.cmpi .slt v504 c0_i32_328
  let v509 : BitVec 1 := Scalar.xori v507 v508
  let c0_i32_326 : BitVec 32 := 0#32
  let v506 : BitVec 1 := Scalar.cmpi .ne v505 c0_i32_326
  let v510 : BitVec 1 := Scalar.andi v509 v506
  let v511 : BitVec 32 := Scalar.addi v505 v504
  let v512 : BitVec 32 := Scalar.select v510 v511 v505
  let c1_i32_330 : BitVec 32 := 1#32
  let v514 : BitVec 32 := Scalar.muli v512 c1_i32_330
  let v515 : BitVec 32 := Scalar.addi c0_i32_331 v514
  v515.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_335 : BitVec 32 := 32#32
  let v523 : BitVec 32 := Scalar.muli v2 c32_i32_335
  let v524 : Index := Scalar.indexCast v523
  let c0_336 : Index := 0#32
  ![v524.toNat, 0]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v526 : Index := Scalar.indexCast v2
  let c0_337 : Index := 0#32
  let c0_338 : Index := 0#32
  ![v526.toNat, 0, 0]
def k0_off7 (d0 : Dev nD) (c1_i32_339 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v530 : BitVec 32 := Scalar.subi v2 c1_i32_339
  let c16_i32_340 : BitVec 32 := 16#32
  let c0_i32_341 : BitVec 32 := 0#32
  let v531 : BitVec 1 := Scalar.cmpi .eq c16_i32_340 c0_i32_341
  let c1_i32_342 : BitVec 32 := 1#32
  let v532 : BitVec 32 := Scalar.select v531 c1_i32_342 c16_i32_340
  let v533 : BitVec 32 := Scalar.remsi v530 v532
  let c0_i32_344 : BitVec 32 := 0#32
  let v535 : BitVec 1 := Scalar.cmpi .slt v533 c0_i32_344
  let c0_i32_345 : BitVec 32 := 0#32
  let v536 : BitVec 1 := Scalar.cmpi .slt v532 c0_i32_345
  let v537 : BitVec 1 := Scalar.xori v535 v536
  let c0_i32_343 : BitVec 32 := 0#32
  let v534 : BitVec 1 := Scalar.cmpi .ne v533 c0_i32_343
  let v538 : BitVec 1 := Scalar.andi v537 v534
  let v539 : BitVec 32 := Scalar.addi v533 v532
  let v540 : BitVec 32 := Scalar.select v538 v539 v533
  ![v540.toNat]
def k0_off8 (d0 : Dev nD) (c1_i32_339 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v530 : BitVec 32 := Scalar.subi v2 c1_i32_339
  let c16_i32_340 : BitVec 32 := 16#32
  let c0_i32_341 : BitVec 32 := 0#32
  let v531 : BitVec 1 := Scalar.cmpi .eq c16_i32_340 c0_i32_341
  let c1_i32_342 : BitVec 32 := 1#32
  let v532 : BitVec 32 := Scalar.select v531 c1_i32_342 c16_i32_340
  let v533 : BitVec 32 := Scalar.remsi v530 v532
  let c0_i32_344 : BitVec 32 := 0#32
  let v535 : BitVec 1 := Scalar.cmpi .slt v533 c0_i32_344
  let c0_i32_345 : BitVec 32 := 0#32
  let v536 : BitVec 1 := Scalar.cmpi .slt v532 c0_i32_345
  let v537 : BitVec 1 := Scalar.xori v535 v536
  let c0_i32_343 : BitVec 32 := 0#32
  let v534 : BitVec 1 := Scalar.cmpi .ne v533 c0_i32_343
  let v538 : BitVec 1 := Scalar.andi v537 v534
  let v539 : BitVec 32 := Scalar.addi v533 v532
  let v540 : BitVec 32 := Scalar.select v538 v539 v533
  let c0_i32_348 : BitVec 32 := 0#32
  let c0_i32_349 : BitVec 32 := 0#32
  ![v540.toNat, 0, 0]
def k0_dev31 (d0 : Dev nD) : Nat :=
  let c0_i32_552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_544 : BitVec 32 := 1#32
  let v836 : BitVec 32 := Scalar.addi v2 c1_i32_544
  let c16_i32_545 : BitVec 32 := 16#32
  let c0_i32_546 : BitVec 32 := 0#32
  let v837 : BitVec 1 := Scalar.cmpi .eq c16_i32_545 c0_i32_546
  let c1_i32_547 : BitVec 32 := 1#32
  let v838 : BitVec 32 := Scalar.select v837 c1_i32_547 c16_i32_545
  let v839 : BitVec 32 := Scalar.remsi v836 v838
  let c0_i32_549 : BitVec 32 := 0#32
  let v841 : BitVec 1 := Scalar.cmpi .slt v839 c0_i32_549
  let c0_i32_550 : BitVec 32 := 0#32
  let v842 : BitVec 1 := Scalar.cmpi .slt v838 c0_i32_550
  let v843 : BitVec 1 := Scalar.xori v841 v842
  let c0_i32_548 : BitVec 32 := 0#32
  let v840 : BitVec 1 := Scalar.cmpi .ne v839 c0_i32_548
  let v844 : BitVec 1 := Scalar.andi v843 v840
  let v845 : BitVec 32 := Scalar.addi v839 v838
  let v846 : BitVec 32 := Scalar.select v844 v845 v839
  let c1_i32_551 : BitVec 32 := 1#32
  let v847 : BitVec 32 := Scalar.muli v846 c1_i32_551
  let v848 : BitVec 32 := Scalar.addi c0_i32_552 v847
  v848.toNat
def k0_dev32 (d0 : Dev nD) : Nat :=
  let c0_i32_565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_557 : BitVec 32 := 2#32
  let v857 : BitVec 32 := Scalar.addi v2 c2_i32_557
  let c16_i32_558 : BitVec 32 := 16#32
  let c0_i32_559 : BitVec 32 := 0#32
  let v858 : BitVec 1 := Scalar.cmpi .eq c16_i32_558 c0_i32_559
  let c1_i32_560 : BitVec 32 := 1#32
  let v859 : BitVec 32 := Scalar.select v858 c1_i32_560 c16_i32_558
  let v860 : BitVec 32 := Scalar.remsi v857 v859
  let c0_i32_562 : BitVec 32 := 0#32
  let v862 : BitVec 1 := Scalar.cmpi .slt v860 c0_i32_562
  let c0_i32_563 : BitVec 32 := 0#32
  let v863 : BitVec 1 := Scalar.cmpi .slt v859 c0_i32_563
  let v864 : BitVec 1 := Scalar.xori v862 v863
  let c0_i32_561 : BitVec 32 := 0#32
  let v861 : BitVec 1 := Scalar.cmpi .ne v860 c0_i32_561
  let v865 : BitVec 1 := Scalar.andi v864 v861
  let v866 : BitVec 32 := Scalar.addi v860 v859
  let v867 : BitVec 32 := Scalar.select v865 v866 v860
  let c1_i32_564 : BitVec 32 := 1#32
  let v868 : BitVec 32 := Scalar.muli v867 c1_i32_564
  let v869 : BitVec 32 := Scalar.addi c0_i32_565 v868
  v869.toNat
def k0_dev33 (d0 : Dev nD) : Nat :=
  let c0_i32_578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_570 : BitVec 32 := 3#32
  let v878 : BitVec 32 := Scalar.addi v2 c3_i32_570
  let c16_i32_571 : BitVec 32 := 16#32
  let c0_i32_572 : BitVec 32 := 0#32
  let v879 : BitVec 1 := Scalar.cmpi .eq c16_i32_571 c0_i32_572
  let c1_i32_573 : BitVec 32 := 1#32
  let v880 : BitVec 32 := Scalar.select v879 c1_i32_573 c16_i32_571
  let v881 : BitVec 32 := Scalar.remsi v878 v880
  let c0_i32_575 : BitVec 32 := 0#32
  let v883 : BitVec 1 := Scalar.cmpi .slt v881 c0_i32_575
  let c0_i32_576 : BitVec 32 := 0#32
  let v884 : BitVec 1 := Scalar.cmpi .slt v880 c0_i32_576
  let v885 : BitVec 1 := Scalar.xori v883 v884
  let c0_i32_574 : BitVec 32 := 0#32
  let v882 : BitVec 1 := Scalar.cmpi .ne v881 c0_i32_574
  let v886 : BitVec 1 := Scalar.andi v885 v882
  let v887 : BitVec 32 := Scalar.addi v881 v880
  let v888 : BitVec 32 := Scalar.select v886 v887 v881
  let c1_i32_577 : BitVec 32 := 1#32
  let v889 : BitVec 32 := Scalar.muli v888 c1_i32_577
  let v890 : BitVec 32 := Scalar.addi c0_i32_578 v889
  v890.toNat
def k0_dev34 (d0 : Dev nD) : Nat :=
  let c0_i32_591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_583 : BitVec 32 := 4#32
  let v899 : BitVec 32 := Scalar.addi v2 c4_i32_583
  let c16_i32_584 : BitVec 32 := 16#32
  let c0_i32_585 : BitVec 32 := 0#32
  let v900 : BitVec 1 := Scalar.cmpi .eq c16_i32_584 c0_i32_585
  let c1_i32_586 : BitVec 32 := 1#32
  let v901 : BitVec 32 := Scalar.select v900 c1_i32_586 c16_i32_584
  let v902 : BitVec 32 := Scalar.remsi v899 v901
  let c0_i32_588 : BitVec 32 := 0#32
  let v904 : BitVec 1 := Scalar.cmpi .slt v902 c0_i32_588
  let c0_i32_589 : BitVec 32 := 0#32
  let v905 : BitVec 1 := Scalar.cmpi .slt v901 c0_i32_589
  let v906 : BitVec 1 := Scalar.xori v904 v905
  let c0_i32_587 : BitVec 32 := 0#32
  let v903 : BitVec 1 := Scalar.cmpi .ne v902 c0_i32_587
  let v907 : BitVec 1 := Scalar.andi v906 v903
  let v908 : BitVec 32 := Scalar.addi v902 v901
  let v909 : BitVec 32 := Scalar.select v907 v908 v902
  let c1_i32_590 : BitVec 32 := 1#32
  let v910 : BitVec 32 := Scalar.muli v909 c1_i32_590
  let v911 : BitVec 32 := Scalar.addi c0_i32_591 v910
  v911.toNat
def k0_dev35 (d0 : Dev nD) : Nat :=
  let c0_i32_604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_596 : BitVec 32 := 5#32
  let v920 : BitVec 32 := Scalar.addi v2 c5_i32_596
  let c16_i32_597 : BitVec 32 := 16#32
  let c0_i32_598 : BitVec 32 := 0#32
  let v921 : BitVec 1 := Scalar.cmpi .eq c16_i32_597 c0_i32_598
  let c1_i32_599 : BitVec 32 := 1#32
  let v922 : BitVec 32 := Scalar.select v921 c1_i32_599 c16_i32_597
  let v923 : BitVec 32 := Scalar.remsi v920 v922
  let c0_i32_601 : BitVec 32 := 0#32
  let v925 : BitVec 1 := Scalar.cmpi .slt v923 c0_i32_601
  let c0_i32_602 : BitVec 32 := 0#32
  let v926 : BitVec 1 := Scalar.cmpi .slt v922 c0_i32_602
  let v927 : BitVec 1 := Scalar.xori v925 v926
  let c0_i32_600 : BitVec 32 := 0#32
  let v924 : BitVec 1 := Scalar.cmpi .ne v923 c0_i32_600
  let v928 : BitVec 1 := Scalar.andi v927 v924
  let v929 : BitVec 32 := Scalar.addi v923 v922
  let v930 : BitVec 32 := Scalar.select v928 v929 v923
  let c1_i32_603 : BitVec 32 := 1#32
  let v931 : BitVec 32 := Scalar.muli v930 c1_i32_603
  let v932 : BitVec 32 := Scalar.addi c0_i32_604 v931
  v932.toNat
def k0_dev36 (d0 : Dev nD) : Nat :=
  let c0_i32_617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_609 : BitVec 32 := 6#32
  let v941 : BitVec 32 := Scalar.addi v2 c6_i32_609
  let c16_i32_610 : BitVec 32 := 16#32
  let c0_i32_611 : BitVec 32 := 0#32
  let v942 : BitVec 1 := Scalar.cmpi .eq c16_i32_610 c0_i32_611
  let c1_i32_612 : BitVec 32 := 1#32
  let v943 : BitVec 32 := Scalar.select v942 c1_i32_612 c16_i32_610
  let v944 : BitVec 32 := Scalar.remsi v941 v943
  let c0_i32_614 : BitVec 32 := 0#32
  let v946 : BitVec 1 := Scalar.cmpi .slt v944 c0_i32_614
  let c0_i32_615 : BitVec 32 := 0#32
  let v947 : BitVec 1 := Scalar.cmpi .slt v943 c0_i32_615
  let v948 : BitVec 1 := Scalar.xori v946 v947
  let c0_i32_613 : BitVec 32 := 0#32
  let v945 : BitVec 1 := Scalar.cmpi .ne v944 c0_i32_613
  let v949 : BitVec 1 := Scalar.andi v948 v945
  let v950 : BitVec 32 := Scalar.addi v944 v943
  let v951 : BitVec 32 := Scalar.select v949 v950 v944
  let c1_i32_616 : BitVec 32 := 1#32
  let v952 : BitVec 32 := Scalar.muli v951 c1_i32_616
  let v953 : BitVec 32 := Scalar.addi c0_i32_617 v952
  v953.toNat
def k0_dev37 (d0 : Dev nD) : Nat :=
  let c0_i32_630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_622 : BitVec 32 := 7#32
  let v962 : BitVec 32 := Scalar.addi v2 c7_i32_622
  let c16_i32_623 : BitVec 32 := 16#32
  let c0_i32_624 : BitVec 32 := 0#32
  let v963 : BitVec 1 := Scalar.cmpi .eq c16_i32_623 c0_i32_624
  let c1_i32_625 : BitVec 32 := 1#32
  let v964 : BitVec 32 := Scalar.select v963 c1_i32_625 c16_i32_623
  let v965 : BitVec 32 := Scalar.remsi v962 v964
  let c0_i32_627 : BitVec 32 := 0#32
  let v967 : BitVec 1 := Scalar.cmpi .slt v965 c0_i32_627
  let c0_i32_628 : BitVec 32 := 0#32
  let v968 : BitVec 1 := Scalar.cmpi .slt v964 c0_i32_628
  let v969 : BitVec 1 := Scalar.xori v967 v968
  let c0_i32_626 : BitVec 32 := 0#32
  let v966 : BitVec 1 := Scalar.cmpi .ne v965 c0_i32_626
  let v970 : BitVec 1 := Scalar.andi v969 v966
  let v971 : BitVec 32 := Scalar.addi v965 v964
  let v972 : BitVec 32 := Scalar.select v970 v971 v965
  let c1_i32_629 : BitVec 32 := 1#32
  let v973 : BitVec 32 := Scalar.muli v972 c1_i32_629
  let v974 : BitVec 32 := Scalar.addi c0_i32_630 v973
  v974.toNat
def k0_dev38 (d0 : Dev nD) : Nat :=
  let c0_i32_643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_635 : BitVec 32 := 8#32
  let v983 : BitVec 32 := Scalar.addi v2 c8_i32_635
  let c16_i32_636 : BitVec 32 := 16#32
  let c0_i32_637 : BitVec 32 := 0#32
  let v984 : BitVec 1 := Scalar.cmpi .eq c16_i32_636 c0_i32_637
  let c1_i32_638 : BitVec 32 := 1#32
  let v985 : BitVec 32 := Scalar.select v984 c1_i32_638 c16_i32_636
  let v986 : BitVec 32 := Scalar.remsi v983 v985
  let c0_i32_640 : BitVec 32 := 0#32
  let v988 : BitVec 1 := Scalar.cmpi .slt v986 c0_i32_640
  let c0_i32_641 : BitVec 32 := 0#32
  let v989 : BitVec 1 := Scalar.cmpi .slt v985 c0_i32_641
  let v990 : BitVec 1 := Scalar.xori v988 v989
  let c0_i32_639 : BitVec 32 := 0#32
  let v987 : BitVec 1 := Scalar.cmpi .ne v986 c0_i32_639
  let v991 : BitVec 1 := Scalar.andi v990 v987
  let v992 : BitVec 32 := Scalar.addi v986 v985
  let v993 : BitVec 32 := Scalar.select v991 v992 v986
  let c1_i32_642 : BitVec 32 := 1#32
  let v994 : BitVec 32 := Scalar.muli v993 c1_i32_642
  let v995 : BitVec 32 := Scalar.addi c0_i32_643 v994
  v995.toNat
def k0_dev39 (d0 : Dev nD) : Nat :=
  let c0_i32_656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_648 : BitVec 32 := 9#32
  let v1004 : BitVec 32 := Scalar.addi v2 c9_i32_648
  let c16_i32_649 : BitVec 32 := 16#32
  let c0_i32_650 : BitVec 32 := 0#32
  let v1005 : BitVec 1 := Scalar.cmpi .eq c16_i32_649 c0_i32_650
  let c1_i32_651 : BitVec 32 := 1#32
  let v1006 : BitVec 32 := Scalar.select v1005 c1_i32_651 c16_i32_649
  let v1007 : BitVec 32 := Scalar.remsi v1004 v1006
  let c0_i32_653 : BitVec 32 := 0#32
  let v1009 : BitVec 1 := Scalar.cmpi .slt v1007 c0_i32_653
  let c0_i32_654 : BitVec 32 := 0#32
  let v1010 : BitVec 1 := Scalar.cmpi .slt v1006 c0_i32_654
  let v1011 : BitVec 1 := Scalar.xori v1009 v1010
  let c0_i32_652 : BitVec 32 := 0#32
  let v1008 : BitVec 1 := Scalar.cmpi .ne v1007 c0_i32_652
  let v1012 : BitVec 1 := Scalar.andi v1011 v1008
  let v1013 : BitVec 32 := Scalar.addi v1007 v1006
  let v1014 : BitVec 32 := Scalar.select v1012 v1013 v1007
  let c1_i32_655 : BitVec 32 := 1#32
  let v1015 : BitVec 32 := Scalar.muli v1014 c1_i32_655
  let v1016 : BitVec 32 := Scalar.addi c0_i32_656 v1015
  v1016.toNat
def k0_dev40 (d0 : Dev nD) : Nat :=
  let c0_i32_669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_661 : BitVec 32 := 10#32
  let v1025 : BitVec 32 := Scalar.addi v2 c10_i32_661
  let c16_i32_662 : BitVec 32 := 16#32
  let c0_i32_663 : BitVec 32 := 0#32
  let v1026 : BitVec 1 := Scalar.cmpi .eq c16_i32_662 c0_i32_663
  let c1_i32_664 : BitVec 32 := 1#32
  let v1027 : BitVec 32 := Scalar.select v1026 c1_i32_664 c16_i32_662
  let v1028 : BitVec 32 := Scalar.remsi v1025 v1027
  let c0_i32_666 : BitVec 32 := 0#32
  let v1030 : BitVec 1 := Scalar.cmpi .slt v1028 c0_i32_666
  let c0_i32_667 : BitVec 32 := 0#32
  let v1031 : BitVec 1 := Scalar.cmpi .slt v1027 c0_i32_667
  let v1032 : BitVec 1 := Scalar.xori v1030 v1031
  let c0_i32_665 : BitVec 32 := 0#32
  let v1029 : BitVec 1 := Scalar.cmpi .ne v1028 c0_i32_665
  let v1033 : BitVec 1 := Scalar.andi v1032 v1029
  let v1034 : BitVec 32 := Scalar.addi v1028 v1027
  let v1035 : BitVec 32 := Scalar.select v1033 v1034 v1028
  let c1_i32_668 : BitVec 32 := 1#32
  let v1036 : BitVec 32 := Scalar.muli v1035 c1_i32_668
  let v1037 : BitVec 32 := Scalar.addi c0_i32_669 v1036
  v1037.toNat
def k0_dev41 (d0 : Dev nD) : Nat :=
  let c0_i32_682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_674 : BitVec 32 := 11#32
  let v1046 : BitVec 32 := Scalar.addi v2 c11_i32_674
  let c16_i32_675 : BitVec 32 := 16#32
  let c0_i32_676 : BitVec 32 := 0#32
  let v1047 : BitVec 1 := Scalar.cmpi .eq c16_i32_675 c0_i32_676
  let c1_i32_677 : BitVec 32 := 1#32
  let v1048 : BitVec 32 := Scalar.select v1047 c1_i32_677 c16_i32_675
  let v1049 : BitVec 32 := Scalar.remsi v1046 v1048
  let c0_i32_679 : BitVec 32 := 0#32
  let v1051 : BitVec 1 := Scalar.cmpi .slt v1049 c0_i32_679
  let c0_i32_680 : BitVec 32 := 0#32
  let v1052 : BitVec 1 := Scalar.cmpi .slt v1048 c0_i32_680
  let v1053 : BitVec 1 := Scalar.xori v1051 v1052
  let c0_i32_678 : BitVec 32 := 0#32
  let v1050 : BitVec 1 := Scalar.cmpi .ne v1049 c0_i32_678
  let v1054 : BitVec 1 := Scalar.andi v1053 v1050
  let v1055 : BitVec 32 := Scalar.addi v1049 v1048
  let v1056 : BitVec 32 := Scalar.select v1054 v1055 v1049
  let c1_i32_681 : BitVec 32 := 1#32
  let v1057 : BitVec 32 := Scalar.muli v1056 c1_i32_681
  let v1058 : BitVec 32 := Scalar.addi c0_i32_682 v1057
  v1058.toNat
def k0_dev42 (d0 : Dev nD) : Nat :=
  let c0_i32_695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_687 : BitVec 32 := 12#32
  let v1067 : BitVec 32 := Scalar.addi v2 c12_i32_687
  let c16_i32_688 : BitVec 32 := 16#32
  let c0_i32_689 : BitVec 32 := 0#32
  let v1068 : BitVec 1 := Scalar.cmpi .eq c16_i32_688 c0_i32_689
  let c1_i32_690 : BitVec 32 := 1#32
  let v1069 : BitVec 32 := Scalar.select v1068 c1_i32_690 c16_i32_688
  let v1070 : BitVec 32 := Scalar.remsi v1067 v1069
  let c0_i32_692 : BitVec 32 := 0#32
  let v1072 : BitVec 1 := Scalar.cmpi .slt v1070 c0_i32_692
  let c0_i32_693 : BitVec 32 := 0#32
  let v1073 : BitVec 1 := Scalar.cmpi .slt v1069 c0_i32_693
  let v1074 : BitVec 1 := Scalar.xori v1072 v1073
  let c0_i32_691 : BitVec 32 := 0#32
  let v1071 : BitVec 1 := Scalar.cmpi .ne v1070 c0_i32_691
  let v1075 : BitVec 1 := Scalar.andi v1074 v1071
  let v1076 : BitVec 32 := Scalar.addi v1070 v1069
  let v1077 : BitVec 32 := Scalar.select v1075 v1076 v1070
  let c1_i32_694 : BitVec 32 := 1#32
  let v1078 : BitVec 32 := Scalar.muli v1077 c1_i32_694
  let v1079 : BitVec 32 := Scalar.addi c0_i32_695 v1078
  v1079.toNat
def k0_dev43 (d0 : Dev nD) : Nat :=
  let c0_i32_708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_700 : BitVec 32 := 13#32
  let v1088 : BitVec 32 := Scalar.addi v2 c13_i32_700
  let c16_i32_701 : BitVec 32 := 16#32
  let c0_i32_702 : BitVec 32 := 0#32
  let v1089 : BitVec 1 := Scalar.cmpi .eq c16_i32_701 c0_i32_702
  let c1_i32_703 : BitVec 32 := 1#32
  let v1090 : BitVec 32 := Scalar.select v1089 c1_i32_703 c16_i32_701
  let v1091 : BitVec 32 := Scalar.remsi v1088 v1090
  let c0_i32_705 : BitVec 32 := 0#32
  let v1093 : BitVec 1 := Scalar.cmpi .slt v1091 c0_i32_705
  let c0_i32_706 : BitVec 32 := 0#32
  let v1094 : BitVec 1 := Scalar.cmpi .slt v1090 c0_i32_706
  let v1095 : BitVec 1 := Scalar.xori v1093 v1094
  let c0_i32_704 : BitVec 32 := 0#32
  let v1092 : BitVec 1 := Scalar.cmpi .ne v1091 c0_i32_704
  let v1096 : BitVec 1 := Scalar.andi v1095 v1092
  let v1097 : BitVec 32 := Scalar.addi v1091 v1090
  let v1098 : BitVec 32 := Scalar.select v1096 v1097 v1091
  let c1_i32_707 : BitVec 32 := 1#32
  let v1099 : BitVec 32 := Scalar.muli v1098 c1_i32_707
  let v1100 : BitVec 32 := Scalar.addi c0_i32_708 v1099
  v1100.toNat
def k0_dev44 (d0 : Dev nD) : Nat :=
  let c0_i32_721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_713 : BitVec 32 := 14#32
  let v1109 : BitVec 32 := Scalar.addi v2 c14_i32_713
  let c16_i32_714 : BitVec 32 := 16#32
  let c0_i32_715 : BitVec 32 := 0#32
  let v1110 : BitVec 1 := Scalar.cmpi .eq c16_i32_714 c0_i32_715
  let c1_i32_716 : BitVec 32 := 1#32
  let v1111 : BitVec 32 := Scalar.select v1110 c1_i32_716 c16_i32_714
  let v1112 : BitVec 32 := Scalar.remsi v1109 v1111
  let c0_i32_718 : BitVec 32 := 0#32
  let v1114 : BitVec 1 := Scalar.cmpi .slt v1112 c0_i32_718
  let c0_i32_719 : BitVec 32 := 0#32
  let v1115 : BitVec 1 := Scalar.cmpi .slt v1111 c0_i32_719
  let v1116 : BitVec 1 := Scalar.xori v1114 v1115
  let c0_i32_717 : BitVec 32 := 0#32
  let v1113 : BitVec 1 := Scalar.cmpi .ne v1112 c0_i32_717
  let v1117 : BitVec 1 := Scalar.andi v1116 v1113
  let v1118 : BitVec 32 := Scalar.addi v1112 v1111
  let v1119 : BitVec 32 := Scalar.select v1117 v1118 v1112
  let c1_i32_720 : BitVec 32 := 1#32
  let v1120 : BitVec 32 := Scalar.muli v1119 c1_i32_720
  let v1121 : BitVec 32 := Scalar.addi c0_i32_721 v1120
  v1121.toNat
def k0_dev45 (d0 : Dev nD) : Nat :=
  let c0_i32_734 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_726 : BitVec 32 := 15#32
  let v1130 : BitVec 32 := Scalar.addi v2 c15_i32_726
  let c16_i32_727 : BitVec 32 := 16#32
  let c0_i32_728 : BitVec 32 := 0#32
  let v1131 : BitVec 1 := Scalar.cmpi .eq c16_i32_727 c0_i32_728
  let c1_i32_729 : BitVec 32 := 1#32
  let v1132 : BitVec 32 := Scalar.select v1131 c1_i32_729 c16_i32_727
  let v1133 : BitVec 32 := Scalar.remsi v1130 v1132
  let c0_i32_731 : BitVec 32 := 0#32
  let v1135 : BitVec 1 := Scalar.cmpi .slt v1133 c0_i32_731
  let c0_i32_732 : BitVec 32 := 0#32
  let v1136 : BitVec 1 := Scalar.cmpi .slt v1132 c0_i32_732
  let v1137 : BitVec 1 := Scalar.xori v1135 v1136
  let c0_i32_730 : BitVec 32 := 0#32
  let v1134 : BitVec 1 := Scalar.cmpi .ne v1133 c0_i32_730
  let v1138 : BitVec 1 := Scalar.andi v1137 v1134
  let v1139 : BitVec 32 := Scalar.addi v1133 v1132
  let v1140 : BitVec 32 := Scalar.select v1138 v1139 v1133
  let c1_i32_733 : BitVec 32 := 1#32
  let v1141 : BitVec 32 := Scalar.muli v1140 c1_i32_733
  let v1142 : BitVec 32 := Scalar.addi c0_i32_734 v1141
  v1142.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x4096 : Shape := ⟨2, ![512, 4096]⟩
abbrev S4096x512 : Shape := ⟨2, ![4096, 512]⟩
abbrev S512x512 : Shape := ⟨2, ![512, 512]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096x512, .f32⟩
  | .hbm, ⟨2, _⟩ => ⟨S512x512, .f32⟩
  | .hbm, ⟨3, _⟩ => ⟨S_, .f32⟩
  | .hbm, ⟨4, _⟩ => ⟨S512x512, .f32⟩
  | .hbm, ⟨5, _⟩ => ⟨S512x512, .f32⟩
  | .hbm, ⟨6, _⟩ => ⟨S_, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S_, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S_, .f32⟩
  | .hbm, ⟨17, _⟩ => ⟨S512x512, .f32⟩
  | .hbm, ⟨18, _⟩ => ⟨S512x512, .f32⟩
  | .hbm, ⟨19, _⟩ => ⟨S512x512, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Sweeps.lean ====
/-
# The kernel's body as five sweeps over the other fifteen devices

The printed body is a straight line of some hundred memory operations. Every stretch of it runs over the fifteen steps
`s`: this module writes each stretch as ONE operation at a symbolic step (`sweep`), and shows that the printed body is
their composition.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic
open Idealize.ShloMosaic.TcCoe
open Idealize.SL.Sem

variable {F : FTy → Type} [FloatOps F]

/-! ## The device a step addresses -/

/-- Whom step `s`'s barrier signal goes to. -/
def sigDev (c : Dev nD) : Fin 15 → Dev nD
  | ⟨0, _⟩ => ⟨k0_dev1 c, k0_dev1_lt c⟩
  | ⟨1, _⟩ => ⟨k0_dev2 c, k0_dev2_lt c⟩
  | ⟨2, _⟩ => ⟨k0_dev3 c, k0_dev3_lt c⟩
  | ⟨3, _⟩ => ⟨k0_dev4 c, k0_dev4_lt c⟩
  | ⟨4, _⟩ => ⟨k0_dev5 c, k0_dev5_lt c⟩
  | ⟨5, _⟩ => ⟨k0_dev6 c, k0_dev6_lt c⟩
  | ⟨6, _⟩ => ⟨k0_dev7 c, k0_dev7_lt c⟩
  | ⟨7, _⟩ => ⟨k0_dev8 c, k0_dev8_lt c⟩
  | ⟨8, _⟩ => ⟨k0_dev9 c, k0_dev9_lt c⟩
  | ⟨9, _⟩ => ⟨k0_dev10 c, k0_dev10_lt c⟩
  | ⟨10, _⟩ => ⟨k0_dev11 c, k0_dev11_lt c⟩
  | ⟨11, _⟩ => ⟨k0_dev12 c, k0_dev12_lt c⟩
  | ⟨12, _⟩ => ⟨k0_dev13 c, k0_dev13_lt c⟩
  | ⟨13, _⟩ => ⟨k0_dev14 c, k0_dev14_lt c⟩
  | ⟨14, _⟩ => ⟨k0_dev15 c, k0_dev15_lt c⟩
  | ⟨n + 15, h⟩ => absurd h (by omega)
/-- Whom step `s`'s copy of the partial product goes to. -/
def scatDev (c : Dev nD) : Fin 15 → Dev nD
  | ⟨0, _⟩ => ⟨k0_dev16 c, k0_dev16_lt c⟩
  | ⟨1, _⟩ => ⟨k0_dev17 c, k0_dev17_lt c⟩
  | ⟨2, _⟩ => ⟨k0_dev18 c, k0_dev18_lt c⟩
  | ⟨3, _⟩ => ⟨k0_dev19 c, k0_dev19_lt c⟩
  | ⟨4, _⟩ => ⟨k0_dev20 c, k0_dev20_lt c⟩
  | ⟨5, _⟩ => ⟨k0_dev21 c, k0_dev21_lt c⟩
  | ⟨6, _⟩ => ⟨k0_dev22 c, k0_dev22_lt c⟩
  | ⟨7, _⟩ => ⟨k0_dev23 c, k0_dev23_lt c⟩
  | ⟨8, _⟩ => ⟨k0_dev24 c, k0_dev24_lt c⟩
  | ⟨9, _⟩ => ⟨k0_dev25 c, k0_dev25_lt c⟩
  | ⟨10, _⟩ => ⟨k0_dev26 c, k0_dev26_lt c⟩
  | ⟨11, _⟩ => ⟨k0_dev27 c, k0_dev27_lt c⟩
  | ⟨12, _⟩ => ⟨k0_dev28 c, k0_dev28_lt c⟩
  | ⟨13, _⟩ => ⟨k0_dev29 c, k0_dev29_lt c⟩
  | ⟨14, _⟩ => ⟨k0_dev30 c, k0_dev30_lt c⟩
  | ⟨n + 15, h⟩ => absurd h (by omega)
/-- Whom step `s`'s copy of the finished rows goes to. -/
def gathDev (c : Dev nD) : Fin 15 → Dev nD
  | ⟨0, _⟩ => ⟨k0_dev31 c, k0_dev31_lt c⟩
  | ⟨1, _⟩ => ⟨k0_dev32 c, k0_dev32_lt c⟩
  | ⟨2, _⟩ => ⟨k0_dev33 c, k0_dev33_lt c⟩
  | ⟨3, _⟩ => ⟨k0_dev34 c, k0_dev34_lt c⟩
  | ⟨4, _⟩ => ⟨k0_dev35 c, k0_dev35_lt c⟩
  | ⟨5, _⟩ => ⟨k0_dev36 c, k0_dev36_lt c⟩
  | ⟨6, _⟩ => ⟨k0_dev37 c, k0_dev37_lt c⟩
  | ⟨7, _⟩ => ⟨k0_dev38 c, k0_dev38_lt c⟩
  | ⟨8, _⟩ => ⟨k0_dev39 c, k0_dev39_lt c⟩
  | ⟨9, _⟩ => ⟨k0_dev40 c, k0_dev40_lt c⟩
  | ⟨10, _⟩ => ⟨k0_dev41 c, k0_dev41_lt c⟩
  | ⟨11, _⟩ => ⟨k0_dev42 c, k0_dev42_lt c⟩
  | ⟨12, _⟩ => ⟨k0_dev43 c, k0_dev43_lt c⟩
  | ⟨13, _⟩ => ⟨k0_dev44 c, k0_dev44_lt c⟩
  | ⟨14, _⟩ => ⟨k0_dev45 c, k0_dev45_lt c⟩
  | ⟨n + 15, h⟩ => absurd h (by omega)

/-- The device `s + 1` places after `c`, round the ring of sixteen. -/
def fwd (c : Dev nD) (s : Fin 15) : Dev nD := ⟨(c.val + s.val + 1) % 16, Nat.mod_lt _ (by decide)⟩
/-- The device `s + 1` places before `c`. -/
def back (c : Dev nD) (s : Fin 15) : Dev nD := ⟨(c.val + 15 - s.val) % 16, Nat.mod_lt _ (by decide)⟩

theorem sigDev_eq : ∀ (c : Dev nD) (s : Fin 15), sigDev c s = fwd c s := by decide +kernel
theorem scatDev_eq : ∀ (c : Dev nD) (s : Fin 15), scatDev c s = fwd c s := by decide +kernel
theorem gathDev_eq : ∀ (c : Dev nD) (s : Fin 15), gathDev c s = fwd c s := by decide +kernel

/-- Step `s` as the word the printed offsets take. -/
abbrev stp (s : Fin 15) : BitVec 32 := BitVec.ofNat 32 (1 + s.val)

theorem off1_eq : ∀ (c : Dev nD) (s : Fin 15), k0_off1 c (stp s) = ![(fwd c s).val] := by decide +kernel
theorem off4_eq : ∀ (c : Dev nD) (s : Fin 15), k0_off4 c (stp s) = ![32 * (fwd c s).val, 0] := by decide +kernel
theorem off7_eq : ∀ (c : Dev nD) (s : Fin 15), k0_off7 c (stp s) = ![(back c s).val] := by decide +kernel
theorem off8_eq : ∀ (c : Dev nD) (s : Fin 15), k0_off8 c (stp s) = ![(back c s).val, 0, 0] := by decide +kernel

/-! ## Memrefs, views and semaphores -/

abbrev aM : Memref sig .tc .vmem S512x256 .f32 := Memref.whole cc0_stg0_0
abbrev bM : Memref sig .tc .vmem S256x512 .f32 := Memref.whole cc0_stg1_0
abbrev oM : Memref sig .tc .vmem S512x512 .f32 := Memref.whole cc0_stg2_0
/-- The partial product. -/
abbrev pM : Memref sig .tc .vmem S512x512 .bf16 := Memref.whole cc0_scratch0
/-- Where the others' partial rows land, one slot per device. -/
abbrev rM : Memref sig .tc .vmem S16x32x512 .bf16 := Memref.whole cc0_scratch1
/-- Where everyone's finished rows land, one slot per device. -/
abbrev gM : Memref sig .tc .vmem S16x32x512 .bf16 := Memref.whole cc0_scratch2

/-- The barrier semaphore. -/
abbrev barS : Sem sig := (SemArray.scalar (sig.barrier 0 rfl) : Sems sig S_).sem
/-- Entry `s` of a semaphore array as a send of step `s` names it (the receiver's number). -/
abbrev semTo (a : DmaSems sig S16) (c : Dev nD) (s : Fin 15) : DmaSem sig :=
  ((a.slice (Rect.unit (s := S16) (k0_off1 c (stp s)) S1.size (k0_off1_inb c s))).squeeze S_ squeezes_S1_S_).sem
/-- The entry the sender's own number names. -/
abbrev semOwn (a : DmaSems sig S16) (c : Dev nD) : DmaSem sig :=
  ((a.slice (Rect.unit (s := S16) (k0_off2 c) S1.size (k0_off2_inb c))).squeeze S_ squeezes_S1_S_).sem
/-- The entry the device before by step `s` names. -/
abbrev semFrom (a : DmaSems sig S16) (c : Dev nD) (s : Fin 15) : DmaSem sig :=
  ((a.slice (Rect.unit (s := S16) (k0_off7 c (stp s)) S1.size (k0_off7_inb c s))).squeeze S_ squeezes_S1_S_).sem

/-- The thirty-two rows of the partial product that step `s` sends. -/
abbrev rowsTo (c : Dev nD) (s : Fin 15) : Memref sig .tc .vmem S32x512 .bf16 :=
  pM.slice (Rect.unit (s := S512x512) (k0_off4 c (stp s)) S32x512.size (k0_off4_inb c s)) (fun _ => rfl)
/-- The slot of a landing buffer that the sender's own number names. -/
abbrev slotOwn (b : Memref sig .tc .vmem S16x32x512 .bf16) (c : Dev nD) : Memref sig .tc .vmem S32x512 .bf16 :=
  (b.slice (Rect.unit (s := S16x32x512) (k0_off3 c) S1x32x512.size (k0_off3_inb c)) (fun _ => rfl)).squeeze S32x512 squeezes_S1x32x512_S32x512
/-- The slot the device before by step `s` writes. -/
abbrev slotFrom (b : Memref sig .tc .vmem S16x32x512 .bf16) (c : Dev nD) (s : Fin 15) : Memref sig .tc .vmem S32x512 .bf16 :=
  (b.slice (Rect.unit (s := S16x32x512) (k0_off8 c (stp s)) S1x32x512.size (k0_off8_inb c s)) (fun _ => rfl)).squeeze S32x512 squeezes_S1x32x512_S32x512

theorem rowsTo_exact (c : Dev nD) (s : Fin 15) : (rowsTo c s).view.WordExact :=
  (Memref.isWhole_whole _ : pM.IsWhole).wordExact_slice rfl _ (k0_off4_wordsbf16 c s)
theorem slotOwn_exact (b : Memref sig .tc .vmem S16x32x512 .bf16) (hb : b.IsWhole) (c : Dev nD) : (slotOwn b c).view.WordExact :=
  (hb.wordExact_slice rfl _ (k0_off3_wordsbf16 c)).reshape _ _
theorem slotFrom_exact (b : Memref sig .tc .vmem S16x32x512 .bf16) (hb : b.IsWhole) (c : Dev nD) (s : Fin 15) : (slotFrom b c s).view.WordExact :=
  (hb.wordExact_slice rfl _ (k0_off8_wordsbf16 c s)).reshape _ _

/-! ## The body -/

abbrev P := Prog (TpuEff nD τ sig (Elt F) Λ₀ .tc) PUnit

/-- An operation at every step in turn, then `k`. -/
def sweep (op : Fin 15 → TpuEff nD τ sig (Elt F) Λ₀ .tc PUnit) (k : P (F := F)) : P (F := F) :=
  List.foldr (fun s k => .op (op s) fun _ => k) k [0, 1, 2, 3, 4, 5, 6, 7, 8, 9, 10, 11, 12, 13, 14]

def opSignal (c : Dev nD) (s : Fin 15) : TpuEff nD τ sig (Elt F) Λ₀ .tc PUnit := .semSignal (sigDev c s : Thread nD τ) barS ((1 : ℕ) : ℤ)
def opScatter (c : Dev nD) (s : Fin 15) : TpuEff nD τ sig (Elt F) Λ₀ .tc PUnit :=
  .enqueueDma (rowsTo c s) (.remote (Dev.tc (scatDev c s)) (slotOwn rM c) (.dma (semTo cc0_scratch3 c s))) (.dma (semOwn cc0_scratch4 c))
    (rowsTo_exact c s) (slotOwn_exact rM (Memref.isWhole_whole _) c) ⟨⟨rfl, Or.inl rfl⟩, trivial⟩
def opRecv (a : DmaSems sig S16) (b : Memref sig .tc .vmem S16x32x512 .bf16) (hb : b.IsWhole) (c : Dev nD) (s : Fin 15) : TpuEff nD τ sig (Elt F) Λ₀ .tc PUnit :=
  .waitDma2 (semFrom a c s) (slotFrom b c s) (slotFrom b c s) (slotFrom_exact b hb c s) (slotFrom_exact b hb c s)
def opGather (c : Dev nD) (s : Fin 15) : TpuEff nD τ sig (Elt F) Λ₀ .tc PUnit :=
  .enqueueDma (slotOwn gM c) (.remote (Dev.tc (gathDev c s)) (slotOwn gM c) (.dma (semTo cc0_scratch5 c s))) (.dma (semOwn cc0_scratch6 c))
    (slotOwn_exact gM (Memref.isWhole_whole _) c) (slotOwn_exact gM (Memref.isWhole_whole _) c) ⟨⟨rfl, Or.inl rfl⟩, trivial⟩
def opScattered (c : Dev nD) (s : Fin 15) : TpuEff nD τ sig (Elt F) Λ₀ .tc PUnit :=
  .waitDma2 (semTo cc0_scratch3 c s) (slotOwn rM c) (rowsTo c s) (slotOwn_exact rM (Memref.isWhole_whole _) c) (rowsTo_exact c s)
def opGathered (c : Dev nD) (s : Fin 15) : TpuEff nD τ sig (Elt F) Λ₀ .tc PUnit :=
  .waitDma2 (semTo cc0_scratch5 c s) (slotOwn gM c) (slotOwn gM c) (slotOwn_exact gM (Memref.isWhole_whole _) c) (slotOwn_exact gM (Memref.isWhole_whole _) c)

abbrev rA : Rect S512x256 := Rect.unit (s := S512x256) ![0, 0] S512x256.size inb_S512x256_S512x256_0_0
abbrev rB : Rect S256x512 := Rect.unit (s := S256x512) ![0, 0] S256x512.size inb_S256x512_S256x512_0_0
abbrev rO : Rect S512x512 := Rect.unit (s := S512x512) ![0, 0] S512x512.size inb_S512x512_S512x512_0_0
abbrev rG : Rect S16x32x512 := Rect.unit (s := S16x32x512) ![0, 0, 0] S16x32x512.size inb_S16x32x512_S16x32x512_0_0_0
abbrev rRow (c : Dev nD) : Rect S512x512 := Rect.unit (s := S512x512) (k0_off5 c) S32x512.size (k0_off5_inb c)
abbrev rSlot (c : Dev nD) : Rect S16x32x512 := Rect.unit (s := S16x32x512) (k0_off6 c) S1x32x512.size (k0_off6_inb c)

/-- The finished rows, from the sixteen landed partial ones. -/
def rowsOf (v : Vec F S16x32x512 .bf16) : FVec F S1x32x512 .bf16 := k0_pay6 (k0_pay4 v) (k0_pay5 v) (Scalar.ofBits .f32 0x3F800000#32)

def tailProg (c : Dev nD) : P (F := F) := sweep (opScattered c) (sweep (opGathered c) (.ret ⟨⟩))

def outProg (c : Dev nD) : P (F := F) :=
  .op (.load gM rG.toLoadRect (View.loadsAt_vmem h_S16x32x512)) fun v =>
  .op (.load oM rO.toLoadRect (View.loadsAt_vmem h_S512x512)) fun _ =>
  .op (.store oM rO (k0_pay7 v) Finset.univ (View.stores_vmem_bits_univ h_S512x512 rfl) (.inl rfl)) fun _ => tailProg c

def gatherProg (c : Dev nD) : P (F := F) :=
  .op (.load rM rG.toLoadRect (View.loadsAt_vmem h_S16x32x512)) fun v =>
  .op (.load gM (rSlot c).toLoadRect (View.loadsAt_vmem h_S1x32x512)) fun _ =>
  .op (.store gM (rSlot c) (rowsOf v) Finset.univ
    (View.stores_vmem h_S1x32x512 ((Memref.isWhole_whole _ : gM.IsWhole).storeExact_slice rfl _ (k0_off6_packedbf16 c)) (fun _ => rfl)) (.inl rfl)) fun _ =>
  sweep (opGather c) (sweep (opRecv cc0_scratch6 gM (Memref.isWhole_whole _) c) (outProg c))

def scatterProg (c : Dev nD) : P (F := F) :=
  sweep (opScatter c) <|
  .op (.load pM (rRow c).toLoadRect (View.loadsAt_vmem h_S32x512)) fun v =>
  .op (.load rM (rSlot c).toLoadRect (View.loadsAt_vmem h_S1x32x512)) fun _ =>
  .op (.store rM (rSlot c) (k0_pay2 v) Finset.univ
    (View.stores_vmem h_S1x32x512 ((Memref.isWhole_whole _ : rM.IsWhole).storeExact_slice rfl _ (k0_off6_packedbf16 c)) (fun _ => rfl)) (.inl rfl)) fun _ =>
  sweep (opRecv cc0_scratch4 rM (Memref.isWhole_whole _) c) (gatherProg c)

def bodyProg (c : Dev nD) : P (F := F) :=
  sweep (opSignal c) <|
  .op (.load aM rA.toLoadRect (View.loadsAt_vmem h_S512x256)) fun v =>
  .op (.load bM rB.toLoadRect (View.loadsAt_vmem h_S256x512)) fun w =>
  .op (.load pM rO.toLoadRect (View.loadsAt_vmem h_S512x512)) fun _ =>
  .op (.store pM rO (k0_pay1 v w) Finset.univ
    (View.stores_vmem h_S512x512 ((Memref.isWhole_whole _ : pM.IsWhole).storeExact_slice rfl _ packedbf16_S512x512_S512x512_0_0) (fun _ => rfl)) (.inl rfl)) fun _ =>
  .op (.semWait barS ((15 : ℕ) : ℤ)) fun _ => scatterProg c

set_option maxRecDepth 65536 in
/-- The printed body reads its device's number and runs the sweeps. -/
theorem body_eq : cc0_body (F := F) aM (Memref.isWhole_whole _) bM (Memref.isWhole_whole _) oM (Memref.isWhole_whole _)
    pM (Memref.isWhole_whole _) rM (Memref.isWhole_whole _) gM (Memref.isWhole_whole _) cc0_scratch3 cc0_scratch4 cc0_scratch5 cc0_scratch6
    = .op .deviceId bodyProg := by
  chain_rfl

end Cert.Exchange

end
-- ==== Proof.Common.lean ====
/-
# Cells, contents and schedule of the exchange

Every device has a barrier cell and sixty-four copy cells, sixteen to each of four purposes: `0` its partial rows sent,
`1` partial rows received, `2` its finished rows sent, `3` finished rows received. Each cell has the one round `0`; the
duties are named by devices. This module says what every payment hands over, what a device owes at the start, and in
which order the cells may be waited for.
-/
module

public import proofs.«01_k».proof.Proof.Sweeps
public import Idealize.ShloMosaic.Lib.Pointwise.Index
public import Idealize.ShloMosaic.Lib.Rounds.Family
public import Idealize.ShloMosaic.Lib.ShareLeaves

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Cells -/

/-- Copy semaphore `j` of purpose `a`. -/
def semk (a : Fin 4) (j : Dev nD) : DmaSem sig := ⟨3 + 16 * a.val + j.val, by have := a.isLt; have h : j.val < 16 := j.isLt; show _ < 67; omega⟩

theorem semTo_3 : ∀ (c : Dev nD) (s : Fin 15), semTo cc0_scratch3 c s = semk 0 (fwd c s) := by decide +kernel
theorem semOwn_4 : ∀ c : Dev nD, semOwn cc0_scratch4 c = semk 1 c := by decide +kernel
theorem semFrom_4 : ∀ (c : Dev nD) (s : Fin 15), semFrom cc0_scratch4 c s = semk 1 (back c s) := by decide +kernel
theorem semTo_5 : ∀ (c : Dev nD) (s : Fin 15), semTo cc0_scratch5 c s = semk 2 (fwd c s) := by decide +kernel
theorem semOwn_6 : ∀ c : Dev nD, semOwn cc0_scratch6 c = semk 3 c := by decide +kernel
theorem semFrom_6 : ∀ (c : Dev nD) (s : Fin 15), semFrom cc0_scratch6 c s = semk 3 (back c s) := by decide +kernel

/-- A device's cells: the barrier, and the copy cells by purpose and partner. -/
abbrev Kind : Type := Unit ⊕ (Fin 4 × Dev nD)

def csem : Kind → SemLoc sig
  | .inl _ => .reg barS
  | .inr (a, j) => .dma (semk a j)

/-- Which cell a semaphore is. -/
def kindOf : SemLoc sig → Option Kind
  | .reg s => if s = barS then some (.inl ()) else none
  | .dma q => if 3 ≤ q.val then some (.inr (⟨(q.val - 3) / 16, by have : q.val < 67 := q.isLt; omega⟩, ⟨(q.val - 3) % 16, Nat.mod_lt _ (by decide)⟩)) else none

theorem kindOf_csem (k : Kind) : kindOf (csem k) = some k := by
  rcases k with ⟨⟩ | ⟨a, j⟩
  · simp only [csem, kindOf, if_true]
  · have ha := a.isLt
    have hj : j.val < 16 := j.isLt
    simp only [csem, kindOf, semk]
    rw [if_pos (by omega)]
    refine congrArg some (congrArg Sum.inr (Prod.ext (Fin.ext ?_) (Fin.ext ?_)))
    · show (3 + 16 * a.val + j.val - 3) / 16 = a.val; omega
    · show (3 + 16 * a.val + j.val - 3) % 16 = j.val; omega

theorem csem_injective : Function.Injective csem := fun k k' h => Option.some.inj (by rw [← kindOf_csem, h, kindOf_csem])

abbrev cell (c : Dev nD) (k : Kind) : GSem nD τ sig := ((c : Thread nD τ), csem k)
abbrev barCell (c : Dev nD) : GSem nD τ sig := cell c (.inl ())
abbrev dmaCell (c : Dev nD) (a : Fin 4) (j : Dev nD) : GSem nD τ sig := cell c (.inr (a, j))

/-! ## Views -/

/-- Rows `32 j …` of the partial product. -/
abbrev rowsM (j : Dev nD) : Memref sig .tc .vmem S32x512 .bf16 :=
  pM.slice (Rect.unit (s := S512x512) (k0_off5 j) S32x512.size (k0_off5_inb j)) (fun _ => rfl)

theorem rows_congr {o o' : Fin 2 → ℕ} (h : o = o') (ho) (ho') :
    (pM.slice (Rect.unit (s := S512x512) o S32x512.size ho) (fun _ => rfl) : Memref sig .tc .vmem S32x512 .bf16)
      = pM.slice (Rect.unit (s := S512x512) o' S32x512.size ho') (fun _ => rfl) := by subst h; rfl
theorem slot_congr (b : Memref sig .tc .vmem S16x32x512 .bf16) {o o' : Fin 3 → ℕ} (h : o = o') (ho) (ho') :
    ((b.slice (Rect.unit (s := S16x32x512) o S1x32x512.size ho) (fun _ => rfl)).squeeze S32x512 squeezes_S1x32x512_S32x512 : Memref sig .tc .vmem S32x512 .bf16)
      = (b.slice (Rect.unit (s := S16x32x512) o' S1x32x512.size ho') (fun _ => rfl)).squeeze S32x512 squeezes_S1x32x512_S32x512 := by subst h; rfl

theorem rowsTo_eq (c : Dev nD) (s : Fin 15) : rowsTo c s = rowsM (fwd c s) := rows_congr ((off4_eq c s).trans (k0_off5_eq (fwd c s)).symm) _ _
theorem slotFrom_eq (b : Memref sig .tc .vmem S16x32x512 .bf16) (c : Dev nD) (s : Fin 15) : slotFrom b c s = slotOwn b (back c s) :=
  slot_congr b ((off8_eq c s).trans (k0_off3_eq (back c s)).symm) _ _

/-- The credit of one copy: thirty-two rows. -/
abbrev N : ℕ := (slotOwn rM 0).view.dmaCredit
theorem N_pos : 0 < N := View.dmaCredit_pos _ (by decide)

/-! ## Contents -/

variable (m : (ℓ : Loc nD τ sig) → Buf (Elt F) ℓ) (ρ : Dev nD → PrngReg)

def s₀ : MemSt nD τ sig (Elt F) := ⟨m, fun _ => 0, ρ⟩

/-- The first operand's block on device `c`. -/
def xA (c : Dev nD) : (cc0_stg0_0 : Ref sig .tc).ty.Contents (Elt F) :=
  (win0_0.blk (0 : Fin 1)).view.read (Elt F) ((s₀ m ρ).mem ((c : Thread nD τ).loc main_arg0))
/-- The second operand's block on device `c`. -/
def xB (c : Dev nD) : (cc0_stg1_0 : Ref sig .tc).ty.Contents (Elt F) :=
  (win0_1.blk (0 : Fin 1)).view.read (Elt F) ((s₀ m ρ).mem ((c : Thread nD τ).loc main_arg1))

/-- Device `c`'s partial product. -/
def part (c : Dev nD) : (cc0_scratch0 : Ref sig .tc).ty.Contents (Elt F) := k0_pay1 (xA m ρ c) (xB m ρ c)

/-- Device `c`'s landing buffer when full: in slot `d`, rows `32 c …` of device `d`'s partial product. -/
def rsAt (c : Dev nD) : (cc0_scratch1 : Ref sig .tc).ty.Contents (Elt F) := fun i : S16x32x512.Idx =>
  part m ρ (show Fin 16 from i 0)
    (ix2 (n0 := 512) (n1 := 512) ⟨32 * c.val + (i 1).val, by have h1 : (i 1).val < 32 := (i 1).isLt; have h2 : c.val < 16 := c.isLt; omega⟩ (show Fin 512 from i 2))

/-- The gathered buffer when full, the same on every device: in slot `d`, device `d`'s finished rows. -/
def gAt : (cc0_scratch2 : Ref sig .tc).ty.Contents (Elt F) := fun i : S16x32x512.Idx =>
  rowsOf (rsAt m ρ (show Fin 16 from i 0)) (ix3 (n0 := 1) (n1 := 32) (n2 := 512) 0 (show Fin 32 from i 1) (show Fin 512 from i 2))

/-- The result, the same on every device. -/
def outAt : (cc0_stg2_0 : Ref sig .tc).ty.Contents (Elt F) := k0_pay7 (gAt m ρ)

/-! ## The pieces that change hands -/

/-- Share `j` of sixteen. -/
abbrev sh (j : Dev nD) : PosShare TreeShare := ShareLeaves.leaf 4 fullShare j

/-- Rows `32 j …` of device `c`'s partial-product buffer. -/
def pRows (c j : Dev nD) (f : (cc0_scratch0 : Ref sig .tc).ty.Contents (Elt F)) : sProp 𝕄 :=
  (rowsM j).view.loc (c : Thread nD τ) ↦[(rowsM j).view.set]{fullShare} f
/-- Slot `j` of device `c`'s landing buffer. -/
def rSlotP (c j : Dev nD) (f : (cc0_scratch1 : Ref sig .tc).ty.Contents (Elt F)) : sProp 𝕄 :=
  (slotOwn rM j).view.loc (c : Thread nD τ) ↦[(slotOwn rM j).view.set]{fullShare} f
/-- Slot `j` of device `c`'s gathered buffer, at share `q`. -/
def gSlotP (c j : Dev nD) (q : PosShare TreeShare) (f : (cc0_scratch2 : Ref sig .tc).ty.Contents (Elt F)) : sProp 𝕄 :=
  (slotOwn gM j).view.loc (c : Thread nD τ) ↦[(slotOwn gM j).view.set]{q} f

omit [FloatOps F] in
instance pRows_storable (c j : Dev nD) (f) : BI.Storable (upEmb : UEmb _ 𝕄) (pRows (F := F) c j f) := by unfold pRows; infer_instance
omit [FloatOps F] in
instance rSlotP_storable (c j : Dev nD) (f) : BI.Storable (upEmb : UEmb _ 𝕄) (rSlotP (F := F) c j f) := by unfold rSlotP; infer_instance
omit [FloatOps F] in
instance gSlotP_storable (c j : Dev nD) (q) (f) : BI.Storable (upEmb : UEmb _ 𝕄) (gSlotP (F := F) c j q f) := by unfold gSlotP; infer_instance

/-- What device `d`'s signal hands device `c`: slot `c` of both of `d`'s landing buffers. -/
def barPay (c d : Dev nD) : sProp 𝕄 := iprop((∃ f, rSlotP (F := F) d c f) ∗ ∃ f, gSlotP (F := F) d c fullShare f)

/-- What the copy that credits `c`'s cell `(a, j)` hands over. -/
def dmaPay (c : Dev nD) (a : Fin 4) (j : Dev nD) : sProp 𝕄 :=
  match a with
  | 0 => pRows c j (part m ρ c)
  | 1 => rSlotP c j (rsAt m ρ c)
  | 2 => gSlotP c c (sh j) (gAt m ρ)
  | 3 => gSlotP c j fullShare (gAt m ρ)

/-- The payload of duty `d` of a cell. -/
def pay (c : Dev nD) (k : Option Kind) (d : Dev nD) : sProp 𝕄 :=
  match k with
  | none => iprop(emp)
  | some (.inl _) => barPay c d
  | some (.inr (a, j)) => dmaPay m ρ c a j

instance pay_storable (c : Dev nD) (k : Option Kind) (d : Dev nD) : BI.Storable (upEmb : UEmb _ 𝕄) (pay (F := F) m ρ c k d) := by
  rcases k with _ | _ | ⟨a, j⟩
  · unfold pay; infer_instance
  · unfold pay barPay; infer_instance
  · show BI.Storable _ (dmaPay m ρ c a j)
    unfold dmaPay; split <;> infer_instance

/-- The duties of a cell. -/
def dut (c : Dev nD) : Option Kind → Finset (Dev nD)
  | none => ∅
  | some (.inl _) => Finset.univ.erase c
  | some (.inr (_, j)) => ({j} : Finset (Dev nD)).erase c
/-- The amount of each. -/
def amt : Option Kind → ℕ
  | some (.inl _) => 1
  | _ => N

/-- One round: every barrier cell is paid one unit by each other device, every copy cell with a partner one copy. -/
def Rd : Rounds.Schedule (GSem nD τ sig) (Dev nD) 𝕄 where
  duties g r := if r = 0 ∧ g.1.2 = .tc then dut g.1.1 (kindOf g.2) else ∅
  unitless _ := False
  amount g _ _ := amt (kindOf g.2)
  payload g _ d := pay m ρ g.1.1 (kindOf g.2) d
  amount_pos g _ _ _ := by
    rcases kindOf g.2 with _ | _ | _
    · exact N_pos
    · exact Nat.one_pos
    · exact N_pos

instance Rd_payload_storable (g : GSem nD τ sig) (r : ℕ) (d : Dev nD) : BI.Storable (upEmb : UEmb _ 𝕄) ((Rd (F := F) m ρ).payload g r d) :=
  pay_storable m ρ g.1.1 (kindOf g.2) d

theorem duties_cell (c : Dev nD) (k : Kind) : (Rd (F := F) m ρ).duties (cell c k) 0 = dut c (some k) := by
  dsimp only [Rd]; rw [if_pos ⟨rfl, rfl⟩, kindOf_csem]
theorem duties_later (g : GSem nD τ sig) : ∀ r, 1 ≤ r → (Rd (F := F) m ρ).duties g r = ∅ :=
  fun r hr => by dsimp only [Rd]; rw [if_neg fun h => by omega]
theorem duties_self (c : Dev nD) (a : Fin 4) : ∀ r, 0 ≤ r → (Rd (F := F) m ρ).duties (dmaCell c a c) r = ∅ := fun r _ => by
  rcases r with _ | r
  · rw [duties_cell]; show ({c} : Finset (Dev nD)).erase c = ∅; simp
  · exact duties_later m ρ _ _ (by omega)
theorem mem_bar {c d : Dev nD} (h : d ≠ c) : d ∈ (Rd (F := F) m ρ).duties (barCell c) 0 := by
  rw [duties_cell]; exact Finset.mem_erase.mpr ⟨h, Finset.mem_univ _⟩
theorem duties_dma {c j : Dev nD} (a : Fin 4) (h : j ≠ c) : (Rd (F := F) m ρ).duties (dmaCell c a j) 0 = {j} := by
  rw [duties_cell]; exact Finset.erase_eq_of_notMem (by simpa using h.symm)
theorem mem_dma {c j : Dev nD} (a : Fin 4) (h : j ≠ c) : j ∈ (Rd (F := F) m ρ).duties (dmaCell c a j) 0 := by
  rw [duties_dma m ρ a h]; exact Finset.mem_singleton_self _
theorem amount_cell (c : Dev nD) (k : Kind) (d : Dev nD) : (Rd (F := F) m ρ).amount (cell c k) 0 d = amt (some k) := by
  dsimp only [Rd]; rw [kindOf_csem]
theorem payload_bar (c d : Dev nD) : (Rd (F := F) m ρ).payload (barCell c) 0 d = barPay c d := by
  dsimp only [Rd]; rw [kindOf_csem]; rfl
theorem payload_dma (c : Dev nD) (a : Fin 4) (j d : Dev nD) : (Rd (F := F) m ρ).payload (dmaCell c a j) 0 d = dmaPay m ρ c a j := by
  dsimp only [Rd]; rw [kindOf_csem]; rfl
theorem expect_bar (c : Dev nD) : (Rd (F := F) m ρ).expect (barCell c) 0 = 15 := by
  unfold Schedule.expect Schedule.amountOf
  rw [duties_cell, Finset.sum_congr rfl fun d _ => amount_cell m ρ c _ d]
  show ∑ _ ∈ Finset.univ.erase c, 1 = 15
  rw [Finset.sum_const, Finset.card_erase_of_mem (Finset.mem_univ _), Finset.card_univ]
  rfl
theorem expect_dma {c j : Dev nD} (a : Fin 4) (h : j ≠ c) : (Rd (F := F) m ρ).expect (dmaCell c a j) 0 = N := by
  unfold Schedule.expect Schedule.amountOf; rw [duties_dma m ρ a h, Finset.sum_singleton, amount_cell]; rfl
theorem rest_bar (c : Dev nD) :
    bigSep ((Rd (F := F) m ρ).duties (barCell c) 0 \ ∅) (fun d => (Rd (F := F) m ρ).payload (barCell c) 0 d) = bigSep (Finset.univ.erase c) fun d => barPay (F := F) c d := by
  rw [Finset.sdiff_empty, duties_cell]; exact bigSep_congr fun d _ => payload_bar m ρ c d
theorem rest_dma {c j : Dev nD} (a : Fin 4) (h : j ≠ c) :
    bigSep ((Rd (F := F) m ρ).duties (dmaCell c a j) 0 \ ∅) (fun d => (Rd (F := F) m ρ).payload (dmaCell c a j) 0 d) = dmaPay m ρ c a j := by
  rw [Finset.sdiff_empty, duties_dma m ρ a h, bigSep_singleton, payload_dma]

/-! ## The ring, step by step -/

theorem fwd_ne (c : Dev nD) (s : Fin 15) : fwd c s ≠ c := by
  intro h
  have := congrArg Fin.val h
  have h2 : c.val < 16 := c.isLt
  have hs := s.isLt
  simp only [fwd] at this
  omega
theorem back_ne (c : Dev nD) (s : Fin 15) : back c s ≠ c := by
  intro h
  have := congrArg Fin.val h
  have h2 : c.val < 16 := c.isLt
  have hs := s.isLt
  simp only [back] at this
  omega
theorem fwd_injective (c : Dev nD) : Function.Injective (fwd c) := by revert c; decide +kernel
theorem back_injective (c : Dev nD) : Function.Injective (back c) := by revert c; decide +kernel
theorem fwd_univ : ∀ c : Dev nD, Finset.univ.map ⟨fwd c, fwd_injective c⟩ = Finset.univ.erase c := by decide +kernel
theorem back_univ : ∀ c : Dev nD, Finset.univ.map ⟨back c, back_injective c⟩ = Finset.univ.erase c := by decide +kernel

omit [FloatOps F] in
/-- The steps run through every other device, forwards -/
theorem steps_fwd (c : Dev nD) (Φ : Dev nD → sProp 𝕄) : bigSep (Finset.univ.erase c) Φ = bigSep Finset.univ fun s => Φ (fwd c s) := by
  rw [← fwd_univ c, bigSep_map]; rfl
omit [FloatOps F] in
/-- and backwards. -/
theorem steps_back (c : Dev nD) (Φ : Dev nD → sProp 𝕄) : bigSep (Finset.univ.erase c) Φ = bigSep Finset.univ fun s => Φ (back c s) := by
  rw [← back_univ c, bigSep_map]; rfl

/-! ## What a device owes; the levels -/

abbrev steps : List (Fin 15) := [0, 1, 2, 3, 4, 5, 6, 7, 8, 9, 10, 11, 12, 13, 14]

/-- What step `s`'s signal pays, -/
def oSig (c : Dev nD) (s : Fin 15) : CellTallies nD τ sig Unit := tallyAt (barCell (fwd c s)) () 1
/-- and what its copies pay the receiver. -/
def oDma (a : Fin 4) (c : Dev nD) (s : Fin 15) : CellTallies nD τ sig Unit := tallyAt (dmaCell (fwd c s) a c) () N

/-- The sum over the steps still to come. -/
def owed (o : Fin 15 → CellTallies nD τ sig Unit) (l : List (Fin 15)) : CellTallies nD τ sig Unit := (l.map o).sum

def O₂ (c : Dev nD) : CellTallies nD τ sig Unit := owed (oDma 3 c) steps
def O₁ (c : Dev nD) : CellTallies nD τ sig Unit := owed (oDma 1 c) steps + O₂ c
def O₀ (c : Dev nD) : CellTallies nD τ sig Unit := owed (oSig c) steps + O₁ c

theorem owed_pos {o : Fin 15 → CellTallies nD τ sig Unit} {l : List (Fin 15)} {g : GSem nD τ sig} {u : Unit} (h : 0 < owed o l g u) :
    ∃ s, 0 < o s g u := by
  induction l with
  | nil => exact absurd h (Nat.lt_irrefl 0)
  | cons s l ih =>
    have h' : 0 < o s g u + owed o l g u := h
    rcases Nat.eq_zero_or_pos (o s g u) with h0 | h0
    · exact ih (by omega)
    · exact ⟨s, h0⟩

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

def L (g : GSem nD τ sig) : Finset Unit := if g.1.2 = .tc then {()} else ∅
/-- Barrier cells at 1, the first copies' receive cells at 2, the second's at 3, everything else at 0. -/
def lvk : Option Kind → ℕ
  | some (.inl _) => 1
  | some (.inr (1, _)) => 2
  | some (.inr (3, _)) => 3
  | _ => 0
def lv (g : GSem nD τ sig) (_ : Unit) : ℕ := lvk (kindOf g.2)

theorem L_of_ne (g : GSem nD τ sig) (h : g.1.2 ≠ .tc) : L g = ∅ := if_neg h
theorem L_tc (c : Dev nD) (sm : SemLoc sig) : L ((c : Thread nD τ), sm) = {()} := if_pos rfl

theorem O₂_pos {c : Dev nD} {g : GSem nD τ sig} {u : Unit} (h : 0 < O₂ c g u) : ∃ d k, g = cell d k ∧ 3 ≤ lvk (some k) := by
  obtain ⟨s, hs⟩ := owed_pos h
  exact ⟨_, _, tally_pos hs, le_refl 3⟩
theorem O₁_pos {c : Dev nD} {g : GSem nD τ sig} {u : Unit} (h : 0 < O₁ c g u) : ∃ d k, g = cell d k ∧ 2 ≤ lvk (some k) := by
  have h' : 0 < owed (oDma 1 c) steps g u + O₂ c g u := h
  rcases Nat.eq_zero_or_pos (owed (oDma 1 c) steps g u) with h0 | h0
  · obtain ⟨d, k, hg, hk⟩ := O₂_pos (c := c) (g := g) (u := u) (by omega)
    exact ⟨d, k, hg, by omega⟩
  · obtain ⟨s, hs⟩ := owed_pos h0
    exact ⟨_, _, tally_pos hs, le_refl 2⟩
theorem O₀_pos {c : Dev nD} {g : GSem nD τ sig} {u : Unit} (h : 0 < O₀ c g u) : ∃ d k, g = cell d k ∧ 1 ≤ lvk (some k) := by
  have h' : 0 < owed (oSig c) steps g u + O₁ c g u := h
  rcases Nat.eq_zero_or_pos (owed (oSig c) steps g u) with h0 | h0
  · obtain ⟨d, k, hg, hk⟩ := O₁_pos (c := c) (g := g) (u := u) (by omega)
    exact ⟨d, k, hg, by omega⟩
  · obtain ⟨s, hs⟩ := owed_pos h0
    exact ⟨_, _, tally_pos hs, le_refl 1⟩

omit [FloatOps F] in
/-- A device may wait on a semaphore whose level is below everything it owes. -/
theorem mayWait (c : Dev nD) (sm : SemLoc sig) (n : ℕ) (hn : lvk (kindOf sm) ≤ n) (O : CellTallies nD τ sig Unit)
    (hO : ∀ (g : GSem nD τ sig) (u : Unit), 0 < O g u → ∃ d k, g = cell d k ∧ n + 1 ≤ lvk (some k)) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, k, rfl, -⟩ := hO g u hg; rw [L_tc]; exact Finset.mem_singleton_self _)
    (fun p hp => by rw [Finset.mem_singleton.mp hp]; exact hn)
    (fun g u hg => by
      obtain ⟨d, k, rfl, hk⟩ := hO g u hg
      show n < lvk (kindOf (csem k))
      rw [kindOf_csem]; omega)

omit [FloatOps F] in
theorem mayWait_none (c : Dev nD) (sm : SemLoc sig) : (levAts L lv : sProp 𝕄) ⊢ MayWait (c : Thread nD τ) sm () 0 := by
  rw [MayWait_zero]; iintro -; iempintro

end Cert.Exchange

end
-- ==== Proof.Views.lean ====
/-
# What the slots and rows of the scratch buffers hold

The element sets of the views the kernel moves, that slots and rows part their buffers, and what each landing and each
store leaves in its slot.
-/
module

public import proofs.«01_k».proof.Proof.Common
public import Idealize.ShloMosaic.Lib.Pointwise
public import Idealize.ShloMosaic.Lib.ViewIndex

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Element sets -/

/-- The elements of slot `j`, -/
def slotSet (j : Dev nD) : Finset S16x32x512.Idx := (Rect.unit (s := S16x32x512) (k0_off3 j) S1x32x512.size (k0_off3_inb j)).set
/-- and of row block `j`. -/
def rowSet (j : Dev nD) : Finset S512x512.Idx := (Rect.unit (s := S512x512) (k0_off5 j) S32x512.size (k0_off5_inb j)).set

theorem rM_set (j : Dev nD) : (slotOwn rM j).view.set = slotSet j := by
  show ((View.slice (View.whole cc0_scratch1) _).reshape _ _).set = _
  rw [View.set_reshape]; exact View.set_slice_whole _ _
theorem gM_set (j : Dev nD) : (slotOwn gM j).view.set = slotSet j := by
  show ((View.slice (View.whole cc0_scratch2) _).reshape _ _).set = _
  rw [View.set_reshape]; exact View.set_slice_whole _ _
theorem pM_set (j : Dev nD) : (rowsM j).view.set = rowSet j :=
  View.set_slice_whole _ _

theorem mem_slot (j : Dev nD) (i : S16x32x512.Idx) : i ∈ slotSet j ↔ (i 0).val = j.val := by
  unfold slotSet
  rw [Rect.mem_set_unit, k0_off3_eq]
  have h1 : (i 1).val < 32 := (i 1).isLt
  have h2 : (i 2).val < 512 := (i 2).isLt
  constructor
  · intro h
    have h0 : j.val ≤ (i 0).val ∧ (i 0).val < j.val + 1 := h 0
    omega
  · intro h a
    match a with
    | ⟨0, _⟩ => show j.val ≤ (i 0).val ∧ (i 0).val < j.val + 1; omega
    | ⟨1, _⟩ => show 0 ≤ (i 1).val ∧ (i 1).val < 0 + 32; omega
    | ⟨2, _⟩ => show 0 ≤ (i 2).val ∧ (i 2).val < 0 + 512; omega

theorem mem_rows (j : Dev nD) (i : S512x512.Idx) : i ∈ rowSet j ↔ (i 0).val / 32 = j.val := by
  unfold rowSet
  rw [Rect.mem_set_unit, k0_off5_eq]
  have h1 : (i 1).val < 512 := (i 1).isLt
  constructor
  · intro h
    have h0 : 32 * j.val ≤ (i 0).val ∧ (i 0).val < 32 * j.val + 32 := h 0
    omega
  · intro h a
    match a with
    | ⟨0, _⟩ => show 32 * j.val ≤ (i 0).val ∧ (i 0).val < 32 * j.val + 32; omega
    | ⟨1, _⟩ => show 0 ≤ (i 1).val ∧ (i 1).val < 0 + 512; omega

/-- The slots part the landing buffer, -/
theorem slots_union : Finset.univ.biUnion slotSet = Finset.univ :=
  Finset.eq_univ_iff_forall.mpr fun i => Finset.mem_biUnion.mpr ⟨⟨(i 0).val, (i 0).isLt⟩, Finset.mem_univ _, (mem_slot _ i).mpr rfl⟩
theorem slots_disjoint (j j' : Dev nD) (h : j ≠ j') : Disjoint (slotSet j) (slotSet j') :=
  Finset.disjoint_left.mpr fun i h1 h2 => h (Fin.ext (((mem_slot j i).mp h1).symm.trans ((mem_slot j' i).mp h2)))
/-- and the row blocks the partial product. -/
theorem rows_union : Finset.univ.biUnion rowSet = Finset.univ :=
  Finset.eq_univ_iff_forall.mpr fun i => Finset.mem_biUnion.mpr
    ⟨⟨(i 0).val / 32, by have h : (i 0).val < 512 := (i 0).isLt; show _ < 16; omega⟩, Finset.mem_univ _, (mem_rows _ i).mpr rfl⟩
theorem rows_disjoint (j j' : Dev nD) (h : j ≠ j') : Disjoint (rowSet j) (rowSet j') :=
  Finset.disjoint_left.mpr fun i h1 h2 => h (Fin.ext (((mem_rows j i).mp h1).symm.trans ((mem_rows j' i).mp h2)))

omit [FloatOps F] in
theorem rSlotP_eq (c j : Dev nD) (f : (cc0_scratch1 : Ref sig .tc).ty.Contents (Elt F)) :
    (rSlotP c j f : sProp 𝕄) = (((c : Thread nD τ).loc cc0_scratch1) ↦[slotSet j]{fullShare} f) :=
  congrArg (fun S : Finset S16x32x512.Idx => (((c : Thread nD τ).loc cc0_scratch1) ↦[S]{fullShare} f : sProp 𝕄)) (rM_set j)
omit [FloatOps F] in
theorem gSlotP_eq (c j : Dev nD) (q : PosShare TreeShare) (f : (cc0_scratch2 : Ref sig .tc).ty.Contents (Elt F)) :
    (gSlotP c j q f : sProp 𝕄) = (((c : Thread nD τ).loc cc0_scratch2) ↦[slotSet j]{q} f) :=
  congrArg (fun S : Finset S16x32x512.Idx => (((c : Thread nD τ).loc cc0_scratch2) ↦[S]{q} f : sProp 𝕄)) (gM_set j)
omit [FloatOps F] in
theorem pRows_eq (c j : Dev nD) (f : (cc0_scratch0 : Ref sig .tc).ty.Contents (Elt F)) :
    (pRows c j f : sProp 𝕄) = (((c : Thread nD τ).loc cc0_scratch0) ↦[rowSet j]{fullShare} f) :=
  congrArg (fun S : Finset S512x512.Idx => (((c : Thread nD τ).loc cc0_scratch0) ↦[S]{fullShare} f : sProp 𝕄)) (pM_set j)

omit [FloatOps F] in
/-- A whole buffer is its parts at once. -/
theorem split_of {ℓ : Loc nD τ sig} (S : Dev nD → Finset (Idx ℓ)) (hu : Finset.univ.biUnion S = Finset.univ)
    (hd : ∀ j j', j ≠ j' → Disjoint (S j) (S j')) (q : PosShare TreeShare) (f : Buf (Elt F) ℓ) :
    (ℓ ↦{q} f : sProp 𝕄) = bigSep Finset.univ fun j => ℓ ↦[S j]{q} f :=
  (congrArg (fun S => (ℓ ↦[S]{q} f : sProp 𝕄)) hu.symm).trans (pointsTo_biUnion _ _ fun j _ j' _ h => hd j j' h)

omit [FloatOps F] in
theorem r_split (c : Dev nD) (f : Buf (Elt F) ((c : Thread nD τ).loc cc0_scratch1)) :
    (((c : Thread nD τ).loc cc0_scratch1) ↦{fullShare} f : sProp 𝕄) = bigSep Finset.univ fun j => rSlotP c j f :=
  (split_of (ℓ := (c : Thread nD τ).loc cc0_scratch1) slotSet slots_union slots_disjoint fullShare f).trans (bigSep_congr fun j _ => (rSlotP_eq c j f).symm)
omit [FloatOps F] in
theorem g_split (c : Dev nD) (q : PosShare TreeShare) (f : Buf (Elt F) ((c : Thread nD τ).loc cc0_scratch2)) :
    (((c : Thread nD τ).loc cc0_scratch2) ↦{q} f : sProp 𝕄) = bigSep Finset.univ fun j => gSlotP c j q f :=
  (split_of (ℓ := (c : Thread nD τ).loc cc0_scratch2) slotSet slots_union slots_disjoint q f).trans (bigSep_congr fun j _ => (gSlotP_eq c j q f).symm)
omit [FloatOps F] in
theorem p_split (c : Dev nD) (f : Buf (Elt F) ((c : Thread nD τ).loc cc0_scratch0)) :
    (((c : Thread nD τ).loc cc0_scratch0) ↦{fullShare} f : sProp 𝕄) = bigSep Finset.univ fun j => pRows c j f :=
  (split_of (ℓ := (c : Thread nD τ).loc cc0_scratch0) rowSet rows_union rows_disjoint fullShare f).trans (bigSep_congr fun j _ => (pRows_eq c j f).symm)

omit [FloatOps F] in
/-- A slot of the gathered buffer as its sixteen shares. -/
theorem g_shares (c j : Dev nD) (f : (cc0_scratch2 : Ref sig .tc).ty.Contents (Elt F)) :
    (gSlotP c j fullShare f : sProp 𝕄) = bigSep Finset.univ fun i => gSlotP c j (sh i) f :=
  ShareLeaves.pointsTo_leaves _ _ 4 fullShare

/-! ## Where the views' indices lie -/

/-- Slot `j`'s element `(a, b)`. -/
abbrev at3 (j : Dev nD) (a : Fin 32) (b : Fin 512) : S16x32x512.Idx := ix3 (n0 := 16) (n1 := 32) (n2 := 512) j a b

theorem unit3_emb (j : Dev nD) {o : Fin 3 → ℕ} (ho : o = ![j.val, 0, 0]) (h : ∀ a, o a + S1x32x512.size a ≤ S16x32x512.size a) (x : S1x32x512.Idx) :
    (Rect.unit (s := S16x32x512) o S1x32x512.size h).emb x = at3 j (x 1) (x 2) := by
  subst ho
  have h0 : (x 0).val < 1 := (x 0).isLt
  refine Shape.idx3_ext ?_ ?_ ?_
  · show j.val + 1 * (x 0).val = j.val; omega
  · show 0 + 1 * (x 1).val = (x 1).val; omega
  · show 0 + 1 * (x 2).val = (x 2).val; omega

/-- Row block `j`'s element `(a, b)`. -/
abbrev at2 (j : Dev nD) (a : Fin 32) (b : Fin 512) : S512x512.Idx :=
  ix2 (n0 := 512) (n1 := 512) ⟨32 * j.val + a.val, by have h1 := a.isLt; have h2 : j.val < 16 := j.isLt; omega⟩ b

theorem unit2_emb (j : Dev nD) {o : Fin 2 → ℕ} (ho : o = ![32 * j.val, 0]) (h : ∀ a, o a + S32x512.size a ≤ S512x512.size a) (x : S32x512.Idx) :
    (Rect.unit (s := S512x512) o S32x512.size h).emb x = at2 j (x 0) (x 1) := by
  subst ho
  funext a
  match a with
  | ⟨0, _⟩ => refine Fin.ext ?_; show 32 * j.val + 1 * (x 0).val = 32 * j.val + (x 0).val; omega
  | ⟨1, _⟩ => refine Fin.ext ?_; show 0 + 1 * (x 1).val = (x 1).val; omega

theorem squeeze_idx (x : S32x512.Idx) : (Shape.reshapeEquiv (s := S1x32x512) (s' := S32x512) (squeezes_S1x32x512_S32x512.numel_eq) x) = ix3 (n0 := 1) (n1 := 32) (n2 := 512) 0 (x 0) (x 1) := by
  pointwise

theorem slotOwn_emb_r (j : Dev nD) (x : S32x512.Idx) : ((slotOwn rM j).view.emb x : S16x32x512.Idx) = at3 j (x 0) (x 1) :=
  (unit3_emb j (k0_off3_eq j) (k0_off3_inb j) _).trans (congrArg (fun y : S1x32x512.Idx => at3 j (y 1) (y 2)) (squeeze_idx x))
theorem slotOwn_emb_g (j : Dev nD) (x : S32x512.Idx) : ((slotOwn gM j).view.emb x : S16x32x512.Idx) = at3 j (x 0) (x 1) :=
  (unit3_emb j (k0_off3_eq j) (k0_off3_inb j) _).trans (congrArg (fun y : S1x32x512.Idx => at3 j (y 1) (y 2)) (squeeze_idx x))

/-! ## What lands, what is stored -/

variable (m : (ℓ : Loc nD τ sig) → Buf (Elt F) ℓ) (ρ : Dev nD → PrngReg)

/-- Rows `32 c …` of device `j`'s partial product, landed in slot `j` of device `c`. -/
theorem landed_r (c j : Dev nD) (fd : (cc0_scratch1 : Ref sig .tc).ty.Contents (Elt F)) (i : S16x32x512.Idx) (hi : i ∈ (slotOwn rM j).view.set) :
    (slotOwn rM j).view.write (Elt F) fd ((rowsM c).view.read (Elt F) (part m ρ j)) Finset.univ i = rsAt m ρ c i := by
  obtain ⟨x, -, rfl⟩ := Finset.mem_map.mp hi
  refine (View.write_emb_of_mem (v := (slotOwn rM j).view) fd _ (Finset.mem_univ x)).trans ?_
  refine (congrArg (part m ρ j) (unit2_emb c (k0_off5_eq c) (k0_off5_inb c) x)).trans ?_
  exact (congrArg (rsAt m ρ c) (slotOwn_emb_r j x)).symm

/-- A device's own finished rows, landed in the same slot of another device. -/
theorem landed_g (j : Dev nD) (fd : (cc0_scratch2 : Ref sig .tc).ty.Contents (Elt F)) (i : S16x32x512.Idx) (hi : i ∈ (slotOwn gM j).view.set) :
    (slotOwn gM j).view.write (Elt F) fd ((slotOwn gM j).view.read (Elt F) (gAt m ρ)) Finset.univ i = gAt m ρ i := by
  obtain ⟨x, -, rfl⟩ := Finset.mem_map.mp hi
  exact View.write_emb_of_mem (v := (slotOwn gM j).view) fd _ (Finset.mem_univ x)

theorem pay2_at (v : FVec F S32x512 .bf16) (a : Fin 32) (b : Fin 512) : (k0_pay2 v : FVec F S1x32x512 .bf16) (ix3 (n0 := 1) (n1 := 32) (n2 := 512) 0 a b) = v (ix2 (n0 := 32) (n1 := 512) a b) := by
  pointwise [k0_pay2]

theorem ix3_one (x : S1x32x512.Idx) : x = ix3 (n0 := 1) (n1 := 32) (n2 := 512) 0 (x 1) (x 2) :=
  Shape.idx3_ext (by have h : (x 0).val < 1 := (x 0).isLt; show (x 0).val = 0; omega) rfl rfl

theorem rSlot_set_r (c : Dev nD) : (rM.access (rSlot c)).set = slotSet c := by
  refine (View.set_slice_whole cc0_scratch1 (rSlot c)).trans ?_
  unfold slotSet
  exact congrArg (fun r : Rect S16x32x512 => r.set) (Rect.unit_congr ((k0_off6_eq c).trans (k0_off3_eq c).symm) _ _)
theorem rSlot_set_g (c : Dev nD) : (gM.access (rSlot c)).set = slotSet c := by
  refine (View.set_slice_whole cc0_scratch2 (rSlot c)).trans ?_
  unfold slotSet
  exact congrArg (fun r : Rect S16x32x512 => r.set) (Rect.unit_congr ((k0_off6_eq c).trans (k0_off3_eq c).symm) _ _)
theorem rRow_set (c : Dev nD) : (pM.access (rRow c)).set = rowSet c := View.set_slice_whole cc0_scratch0 (rRow c)

/-- A device's own rows, stored in its own slot. -/
theorem stored_r (c : Dev nD) (f : (cc0_scratch1 : Ref sig .tc).ty.Contents (Elt F)) (i : S16x32x512.Idx) (hi : i ∈ slotSet c) :
    (rM.access (rSlot c)).write (Elt F) f (k0_pay2 ((pM.access (rRow c)).read (Elt F) (part m ρ c))) Finset.univ i = rsAt m ρ c i := by
  rw [← rSlot_set_r] at hi
  obtain ⟨x, -, rfl⟩ := Finset.mem_map.mp hi
  refine (View.write_emb_of_mem (v := rM.access (rSlot c)) f _ (Finset.mem_univ x)).trans ?_
  refine Eq.trans ?_ (congrArg (rsAt m ρ c) (unit3_emb c (k0_off6_eq c) (k0_off6_inb c) x)).symm
  refine (congrArg (k0_pay2 ((pM.access (rRow c)).read (Elt F) (part m ρ c))) (ix3_one x)).trans ((pay2_at _ _ _).trans ?_)
  exact congrArg (part m ρ c) (unit2_emb c (k0_off5_eq c) (k0_off5_inb c) _)

/-- A device's finished rows, stored in its own slot. -/
theorem stored_g (c : Dev nD) (f : (cc0_scratch2 : Ref sig .tc).ty.Contents (Elt F)) (i : S16x32x512.Idx) (hi : i ∈ slotSet c) :
    (gM.access (rSlot c)).write (Elt F) f (rowsOf (rsAt m ρ c)) Finset.univ i = gAt m ρ i := by
  rw [← rSlot_set_g] at hi
  obtain ⟨x, -, rfl⟩ := Finset.mem_map.mp hi
  refine (View.write_emb_of_mem (v := gM.access (rSlot c)) f _ (Finset.mem_univ x)).trans ?_
  refine Eq.trans ?_ (congrArg (gAt m ρ) (unit3_emb c (k0_off6_eq c) (k0_off6_inb c) x)).symm
  exact congrArg (rowsOf (rsAt m ρ c)) (ix3_one x)

theorem zeros2 : (![0, 0] : Fin 2 → Nat) = fun _ => 0 := funext fun a => by fin_cases a <;> rfl
theorem zeros3 : (![0, 0, 0] : Fin 3 → Nat) = fun _ => 0 := funext fun a => by fin_cases a <;> rfl

omit [FloatOps F] in
theorem read_a (f : (cc0_stg0_0 : Ref sig .tc).ty.Contents (Elt F)) : aM.view.readAt (Elt F) rA.toLoadRect f = f :=
  Memref.readAt_unit_zero (Elt F) cc0_stg0_0 zeros2 _ f
omit [FloatOps F] in
theorem read_b (f : (cc0_stg1_0 : Ref sig .tc).ty.Contents (Elt F)) : bM.view.readAt (Elt F) rB.toLoadRect f = f :=
  Memref.readAt_unit_zero (Elt F) cc0_stg1_0 zeros2 _ f
omit [FloatOps F] in
theorem read_r (f : (cc0_scratch1 : Ref sig .tc).ty.Contents (Elt F)) : rM.view.readAt (Elt F) rG.toLoadRect f = f :=
  Memref.readAt_unit_zero (Elt F) cc0_scratch1 zeros3 _ f
omit [FloatOps F] in
theorem read_g (f : (cc0_scratch2 : Ref sig .tc).ty.Contents (Elt F)) : gM.view.readAt (Elt F) rG.toLoadRect f = f :=
  Memref.readAt_unit_zero (Elt F) cc0_scratch2 zeros3 _ f
omit [FloatOps F] in
theorem write_p (f w : (cc0_scratch0 : Ref sig .tc).ty.Contents (Elt F)) : (pM.access rO).write (Elt F) f w Finset.univ = w :=
  Memref.write_access_unit_zero_univ (Elt F) cc0_scratch0 zeros2 _ f w
omit [FloatOps F] in
theorem write_o (f w : (cc0_stg2_0 : Ref sig .tc).ty.Contents (Elt F)) : (oM.access rO).write (Elt F) f w Finset.univ = w :=
  Memref.write_access_unit_zero_univ (Elt F) cc0_stg2_0 zeros2 _ f w

end Cert.Exchange

end
-- ==== Proof.Steps.lean ====
/-
# One step of each sweep, and the sweep from its step

`wp_sweep` runs a sweep from a rule for one step. The rules for the steps: a signal hands a device its slots, a copy
hands over rows and slot, a wait takes a payload back.
-/
module

public import proofs.«01_k».proof.Proof.Views
public import Idealize.ShloMosaic.Lib.Rounds

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Device `c` runs `p` to `Q`. -/
abbrev runs (c : Dev nD) (p : P (F := F)) (Q : PUnit → sProp 𝕄) : sProp 𝕄 :=
  wp frame (wpE (defs₀ (F := F)) 𝒱₀ (c : Thread nD τ) none) Set.univ p Q

/-! ## Sweeps -/

theorem wp_sweep_list (c : Dev nD) (op : Fin 15 → TpuEff nD τ sig (Elt F) Λ₀ .tc PUnit) (C : sProp 𝕄) [BI.Persistent C]
    (Own : List (Fin 15) → sProp 𝕄) (Pre Post : Fin 15 → sProp 𝕄) (Q : PUnit → sProp 𝕄)
    (hstep : ∀ s l k, iprop(C ∗ Own (s :: l) ∗ Pre s) ⊢ iprop(((Own l ∗ Post s) -∗ runs c k Q) -∗ runs c (.op (op s) fun _ => k) Q))
    (k : P (F := F)) (l : List (Fin 15)) (hl : l.Nodup) :
    iprop(C ∗ Own l ∗ bigSep l.toFinset Pre)
      ⊢ iprop(((Own [] ∗ bigSep l.toFinset Post) -∗ runs c k Q) -∗ runs c (List.foldr (fun s k => .op (op s) fun _ => k) k l) Q) := by
  induction l with
  | nil =>
    refine (show iprop(C ∗ Own [] ∗ emp) ⊢ iprop(((Own [] ∗ emp) -∗ runs c k Q) -∗ runs c k Q) from ?_)
    iintro ⟨-, HO⟩ Hk
    iapply Hk
    iexact HO
  | cons s l ih =>
    have hs : s ∉ l.toFinset := fun h => (List.nodup_cons.mp hl).1 (List.mem_toFinset.mp h)
    rw [List.toFinset_cons, bigSep_insert hs, bigSep_insert hs]
    refine (show iprop(C ∗ Own (s :: l) ∗ Pre s ∗ bigSep l.toFinset Pre)
      ⊢ iprop(((Own [] ∗ Post s ∗ bigSep l.toFinset Post) -∗ runs c k Q) -∗ runs c (.op (op s) fun _ => List.foldr (fun s k => .op (op s) fun _ => k) k l) Q) from ?_)
    iintro ⟨#HC, HO, Hs, HP⟩ Hk
    iapply (hstep s l _) $$ [HO Hs]
    · isplitr; · iexact HC
      isplitl [HO] <;> iassumption
    iintro ⟨HO, Hs⟩
    iapply (ih (List.nodup_cons.mp hl).2) $$ [HO HP]
    · isplitr; · iexact HC
      isplitl [HO] <;> iassumption
    iintro ⟨HO, HP⟩
    iapply Hk
    isplitl [HO]; · iexact HO
    isplitl [Hs] <;> iassumption

/-- A sweep, from the rule for a step: `Own` is what passes from step to step, `Pre` and `Post` what each takes and gives. -/
theorem wp_sweep (c : Dev nD) (op : Fin 15 → TpuEff nD τ sig (Elt F) Λ₀ .tc PUnit) (C : sProp 𝕄) [BI.Persistent C]
    (Own : List (Fin 15) → sProp 𝕄) (Pre Post : Fin 15 → sProp 𝕄) (Q : PUnit → sProp 𝕄)
    (hstep : ∀ s l k, iprop(C ∗ Own (s :: l) ∗ Pre s) ⊢ iprop(((Own l ∗ Post s) -∗ runs c k Q) -∗ runs c (.op (op s) fun _ => k) Q))
    (k : P (F := F)) :
    iprop(C ∗ Own steps ∗ bigSep Finset.univ Pre)
      ⊢ iprop(((Own [] ∗ bigSep Finset.univ Post) -∗ runs c k Q) -∗ runs c (sweep op k) Q) := by
  have h := wp_sweep_list c op C Own Pre Post Q hstep k steps (by decide)
  rw [show steps.toFinset = Finset.univ from by decide] at h
  exact h

/-! ## What every device knows -/

variable (m : (ℓ : Loc nD τ sig) → Buf (Elt F) ℓ) (ρ : Dev nD → PrngReg) (K : Dev nD × Kind → ℕ)

/-- Every cell's invariant, that round 0 of every cell has begun, and the levels. -/
def ctx : sProp 𝕄 :=
  iprop((bigSep Finset.univ fun x : Dev nD × Kind => cellInv ER (Rd m ρ) (K x) (cell x.1 x.2))
    ∗ (bigSep Finset.univ fun x : Dev nD × Kind => reached ER (cell x.1 x.2) 0) ∗ levAts L lv)

instance ctx_persistent : BI.Persistent (ctx (F := F) m ρ K) := by unfold ctx; infer_instance

theorem ctx_inv (c : Dev nD) (k : Kind) : ctx (F := F) m ρ K ⊢ cellInv ER (Rd m ρ) (K (c, k)) (cell c k) := by
  have h : (bigSep Finset.univ fun x : Dev nD × Kind => cellInv ER (Rd m ρ) (K x) (cell x.1 x.2)) ⊢ cellInv ER (Rd (F := F) m ρ) (K (c, k)) (cell c k) :=
    bigSep_elim (Finset.mem_univ (c, k))
  unfold ctx
  iintro ⟨H, -, -⟩
  iapply h
  iexact H
theorem ctx_reached (c : Dev nD) (k : Kind) : ctx (F := F) m ρ K ⊢ reached ER (cell c k) 0 := by
  have h : (bigSep Finset.univ fun x : Dev nD × Kind => (reached ER (cell x.1 x.2) 0 : sProp 𝕄)) ⊢ reached ER (cell c k) 0 :=
    bigSep_elim (Finset.mem_univ (c, k))
  unfold ctx
  iintro ⟨-, H, -⟩
  iapply h
  iexact H
theorem ctx_lev : ctx (F := F) m ρ K ⊢ levAts L lv := by
  unfold ctx
  iintro ⟨-, -, H⟩
  iexact H

theorem ctx_may (c : Dev nD) (sm : SemLoc sig) (O : CellTallies nD τ sig Unit)
    (hO : (levAts L lv : sProp 𝕄) ⊢ MayWait (c : Thread nD τ) sm () O) : ctx (F := F) m ρ K ⊢ MayWait (c : Thread nD τ) sm () O := by
  unfold ctx
  iintro ⟨-, -, H⟩
  iapply hO
  iexact H

/-- What the core owes, whatever it has waited for. -/
def owing (c : Dev nD) (O : CellTallies nD τ sig Unit) : sProp 𝕄 := iprop(∃ W, owes (c : Thread nD τ) O W)

theorem owed_cons (o : Fin 15 → CellTallies nD τ sig Unit) (R : CellTallies nD τ sig Unit) (s : Fin 15) (l : List (Fin 15)) :
    R + owed o (s :: l) = (R + owed o l) + o s := by
  show R + (o s + owed o l) = _
  rw [add_comm (o s), add_assoc]

/-! ## The steps -/

theorem rule_signal (c d : Dev nD) (hd : c ≠ d) (O : CellTallies nD τ sig Unit) (W : Waits sig Unit) (Q : PUnit → sProp 𝕄) (k : P (F := F)) :
    iprop(cellInv ER (Rd m ρ) (K (d, .inl ())) (barCell d) ∗ owes (c : Thread nD τ) (O + tallyAt (barCell d) () 1) W ∗ dutyTok ER (barCell d) 0 c
        ∗ barPay d c ∗ reached ER (barCell d) 0)
      ⊢ iprop((owes (c : Thread nD τ) O W -∗ runs c k Q) -∗ runs c (.op (.semSignal (d : Thread nD τ) barS ((1 : ℕ) : ℤ)) fun _ => k) Q) := by
  rw [← payload_bar m ρ d c]
  exact Rounds.wp_signal (defs := defs₀ (F := F)) (Γ := PendingWaitsCtx.empty) (Q := Q) (k := fun _ => k) (Es := Set.univ) 𝒱₀ ER (Rd m ρ) (c : Thread nD τ) none (dst := (d : Thread nD τ)) (κ := K (d, .inl ()))
      (d := c) (k' := 1) (mem_bar m ρ hd) (amount_cell m ρ d (.inl ()) c) () O rfl

/-- A signal to device `d` hands it its slots of both landing buffers. -/
theorem step_signal (c : Dev nD) (Q : PUnit → sProp 𝕄) (s : Fin 15) (l : List (Fin 15)) (k : P (F := F)) :
    iprop(ctx m ρ K ∗ owing c (O₁ c + owed (oSig c) (s :: l)) ∗ (dutyTok ER (barCell (fwd c s)) 0 c ∗ barPay (fwd c s) c))
      ⊢ iprop(((owing c (O₁ c + owed (oSig c) l) ∗ emp) -∗ runs c k Q) -∗ runs c (.op (opSignal c s) fun _ => k) Q) := by
  rw [owed_cons]
  unfold owing opSignal
  rw [sigDev_eq]
  iintro ⟨#HC, ⟨%W, HO⟩, Ht, Hp⟩ Hk
  iapply (rule_signal m ρ K c (fwd c s) (fwd_ne c s).symm (O₁ c + owed (oSig c) l) W Q k) $$ [HO Ht Hp]
  · isplitr; · iapply (ctx_inv m ρ K (fwd c s) (.inl ())); iexact HC
    isplitl [HO]; · iexact HO
    isplitl [Ht]; · iexact Ht
    isplitl [Hp]; · iexact Hp
    iapply (ctx_reached m ρ K (fwd c s) (.inl ())); iexact HC
  iintro HO
  iapply Hk
  isplitl [HO]
  · iexists W; iexact HO
  · iempintro

/-- A copy of a device's rows or slot to another device, for any spelling of the views, semaphores and target. -/
theorem step_copy (c n d : Dev nD) (hn : n = d) (hd : d ≠ c) (a b : Fin 4) {sS sR : DmaSem sig} (hsS : sS = semk a d) (hsR : sR = semk b c)
    (src₀ src dst : Memref sig .tc .vmem S32x512 .bf16) (he : src = src₀) (hcred : ∀ q : DmaSem sig, dst.view.amount (.dma q) = N)
    {hsc : dst.view.ref.isScScratch = false} {hsrc : src.view.WordExact} {hdst : dst.view.WordExact}
    {hsem : DmaTarget.Typed .vmem (.dma sR) (.remote (Dev.tc n : Thread nD τ) dst (.dma sS) hsc)}
    (q : PosShare TreeShare) (fs : Buf (Elt F) (src₀.view.loc (c : Thread nD τ))) (fd : Buf (Elt F) (dst.view.loc (d : Thread nD τ)))
    (hpay₁ : (src₀.view.loc (c : Thread nD τ) ↦[src₀.view.set]{q} fs : sProp 𝕄) ⊢ dmaPay m ρ c a d)
    (hpay₂ : (dst.view.loc (d : Thread nD τ) ↦[dst.view.set]{fullShare} (dst.view.write (Elt F) fd (src₀.view.read (Elt F) fs) Finset.univ) : sProp 𝕄) ⊢ dmaPay m ρ d b c)
    (O : CellTallies nD τ sig Unit) (W : Waits sig Unit) (Q : PUnit → sProp 𝕄) (k : P (F := F)) :
    iprop(cellInv ER (Rd m ρ) (K (c, .inr (a, d))) (dmaCell c a d) ∗ cellInv ER (Rd m ρ) (K (d, .inr (b, c))) (dmaCell d b c)
        ∗ (src₀.view.loc (c : Thread nD τ) ↦[src₀.view.set]{q} fs) ∗ (dst.view.loc (d : Thread nD τ) ↦[dst.view.set]{fullShare} fd)
        ∗ owes (c : Thread nD τ) (O + tallyAt (dmaCell d b c) () N) W
        ∗ dutyTok ER (dmaCell c a d) 0 d ∗ reached ER (dmaCell c a d) 0 ∗ dutyTok ER (dmaCell d b c) 0 c ∗ reached ER (dmaCell d b c) 0)
      ⊢ iprop(((cred (tallyAt (dmaCell c a d) () N) ∗ owes (c : Thread nD τ) O W) -∗ runs c k Q)
          -∗ runs c (.op (.enqueueDma src (.remote (Dev.tc n : Thread nD τ) dst (.dma sS) hsc) (.dma sR) hsrc hdst hsem) fun _ => k) Q) := by
  subst hn hsS hsR he
  exact Rounds.wp_send_pointsTo (defs := defs₀ (F := F)) (Γ := PendingWaitsCtx.empty) (Q := Q) (k := fun _ => k) (Es := Set.univ) (c' := (n : Thread nD τ)) (src := src) (dst := dst) 𝒱₀ ER (Rd m ρ) (c : Thread nD τ) none (κ₁ := K (c, .inr (a, n))) (κ₂ := K (n, .inr (b, c)))
      (r₁ := 0) (r₂ := 0) (d₁ := n) (d₂ := c) (fd := fd) (mem_dma m ρ a hd) (mem_dma m ρ b hd.symm) () () N (hcred _)
      (amount_cell m ρ c (.inr (a, n)) n) (amount_cell m ρ n (.inr (b, c)) c) O rfl (W := W)
      (hpay₁.trans (Entails.of_eq (payload_dma m ρ c a n n).symm)) (hpay₂.trans (Entails.of_eq (payload_dma m ρ n b c c).symm))

omit [FloatOps F] in
theorem amount_r (j : Dev nD) (q : DmaSem sig) : (slotOwn rM j).view.amount (.dma q) = N := rfl
omit [FloatOps F] in
theorem amount_g (j : Dev nD) (q : DmaSem sig) : (slotOwn gM j).view.amount (.dma q) = N := rfl
omit [FloatOps F] in
theorem amount_p (j : Dev nD) (q : DmaSem sig) : (rowsM j).view.amount (.dma q) = N := rfl

/-- Rows of the partial product go to their device. -/
theorem step_scatter (c : Dev nD) (Q : PUnit → sProp 𝕄) (s : Fin 15) (l : List (Fin 15)) (k : P (F := F)) :
    iprop(ctx m ρ K ∗ owing c (O₂ c + owed (oDma 1 c) (s :: l)) ∗ (dutyTok ER (dmaCell c 0 (fwd c s)) 0 (fwd c s) ∗ dutyTok ER (dmaCell (fwd c s) 1 c) 0 c
        ∗ pRows c (fwd c s) (part m ρ c) ∗ ∃ f, rSlotP (fwd c s) c f))
      ⊢ iprop(((owing c (O₂ c + owed (oDma 1 c) l) ∗ cred (tallyAt (dmaCell c 0 (fwd c s)) () N)) -∗ runs c k Q) -∗ runs c (.op (opScatter c s) fun _ => k) Q) := by
  rw [owed_cons]
  unfold owing opScatter pRows rSlotP
  iintro ⟨#HC, ⟨%W, HO⟩, Ht1, Ht2, Hp, ⟨%fd, Hr⟩⟩ Hk
  iapply (step_copy m ρ K c (scatDev c s) (fwd c s) (scatDev_eq c s) (fwd_ne c s) 0 1 (semTo_3 c s) (semOwn_4 c) (rowsM (fwd c s)) (rowsTo c s) (slotOwn rM c) (rowsTo_eq c s)
    (amount_r c) fullShare (part m ρ c) fd (Entails.refl _)
    (Entails.of_eq (pointsTo_congr fun i hi => landed_r m ρ (fwd c s) c fd i hi)) (O₂ c + owed (oDma 1 c) l) W Q k) $$ [HO Ht1 Ht2 Hp Hr]
  · isplitr; · iapply (ctx_inv m ρ K c (.inr (0, fwd c s))); iexact HC
    isplitr; · iapply (ctx_inv m ρ K (fwd c s) (.inr (1, c))); iexact HC
    isplitl [Hp]; · iexact Hp
    isplitl [Hr]; · iexact Hr
    isplitl [HO]; · iexact HO
    isplitl [Ht1]; · iexact Ht1
    isplitr; · iapply (ctx_reached m ρ K c (.inr (0, fwd c s))); iexact HC
    isplitl [Ht2]; · iexact Ht2
    iapply (ctx_reached m ρ K (fwd c s) (.inr (1, c))); iexact HC
  iintro ⟨Hc, HO⟩
  iapply Hk
  isplitl [HO]
  · iexists W; iexact HO
  · iexact Hc

/-- Finished rows go to every device. -/
theorem step_gather (c : Dev nD) (Q : PUnit → sProp 𝕄) (s : Fin 15) (l : List (Fin 15)) (k : P (F := F)) :
    iprop(ctx m ρ K ∗ owing c (0 + owed (oDma 3 c) (s :: l)) ∗ (dutyTok ER (dmaCell c 2 (fwd c s)) 0 (fwd c s) ∗ dutyTok ER (dmaCell (fwd c s) 3 c) 0 c
        ∗ gSlotP c c (sh (fwd c s)) (gAt m ρ) ∗ ∃ f, gSlotP (fwd c s) c fullShare f))
      ⊢ iprop(((owing c (0 + owed (oDma 3 c) l) ∗ cred (tallyAt (dmaCell c 2 (fwd c s)) () N)) -∗ runs c k Q) -∗ runs c (.op (opGather c s) fun _ => k) Q) := by
  rw [owed_cons]
  unfold owing opGather gSlotP
  iintro ⟨#HC, ⟨%W, HO⟩, Ht1, Ht2, Hp, ⟨%fd, Hr⟩⟩ Hk
  iapply (step_copy m ρ K c (gathDev c s) (fwd c s) (gathDev_eq c s) (fwd_ne c s) 2 3 (semTo_5 c s) (semOwn_6 c) (slotOwn gM c) (slotOwn gM c) (slotOwn gM c) rfl
    (amount_g c) (sh (fwd c s)) (gAt m ρ) fd (Entails.refl _)
    (Entails.of_eq (pointsTo_congr fun i hi => landed_g m ρ c fd i hi)) (0 + owed (oDma 3 c) l) W Q k) $$ [HO Ht1 Ht2 Hp Hr]
  · isplitr; · iapply (ctx_inv m ρ K c (.inr (2, fwd c s))); iexact HC
    isplitr; · iapply (ctx_inv m ρ K (fwd c s) (.inr (3, c))); iexact HC
    isplitl [Hp]; · iexact Hp
    isplitl [Hr]; · iexact Hr
    isplitl [HO]; · iexact HO
    isplitl [Ht1]; · iexact Ht1
    isplitr; · iapply (ctx_reached m ρ K c (.inr (2, fwd c s))); iexact HC
    isplitl [Ht2]; · iexact Ht2
    iapply (ctx_reached m ρ K (fwd c s) (.inr (3, c))); iexact HC
  iintro ⟨Hc, HO⟩
  iapply Hk
  isplitl [HO]
  · iexists W; iexact HO
  · iexact Hc

theorem rule_wait (c d : Dev nD) (hd : d ≠ c) (a : Fin 4) {q : DmaSem sig} (hq : q = semk a d) (src dst : Memref sig .tc .vmem S32x512 .bf16)
    (hcred : ∀ q : DmaSem sig, dst.view.amount (.dma q) = N) (hsrc : src.view.WordExact) (hdst : dst.view.WordExact)
    (O : CellTallies nD τ sig Unit) (W : Waits sig Unit) (Q : PUnit → sProp 𝕄) (k : P (F := F)) :
    iprop(cellInv ER (Rd m ρ) (K (c, .inr (a, d))) (dmaCell c a d) ∗ cred (tallyAt (dmaCell c a d) () N) ∗ owes (c : Thread nD τ) O W
        ∗ MayWait (c : Thread nD τ) (csem (.inr (a, d))) () O ∗ atPos ER (dmaCell c a d) 0 ∅ 0)
      ⊢ iprop(((owes (c : Thread nD τ) O (insert (csem (.inr (a, d)), ()) W) ∗ atPos ER (dmaCell c a d) 1 ∅ 0 ∗ reached ER (dmaCell c a d) 1 ∗ dmaPay m ρ c a d) -∗ runs c k Q)
          -∗ runs c (.op (.waitDma2 q src dst hsrc hdst) fun _ => k) Q) := by
  subst hq
  rw [← rest_dma m ρ a hd]
  exact Rounds.wp_wait_rest_token (defs := defs₀ (F := F)) (Γ := PendingWaitsCtx.empty) (Q := Q) (k := fun _ => k) (Es := Set.univ) (w := .waitDma2 (semk a d) src dst hsrc hdst) 𝒱₀ ER (Rd m ρ) (c : Thread nD τ) none (κ := K (c, .inr (a, d))) (sm := csem (.inr (a, d))) (k' := N)
      (fun _ => (wpE_waitDma2_eq 𝒱₀ (c : Thread nD τ) none Set.univ _).trans (congrArg (fun n => waitSpec _ _ _ n _) (hcred (semk a d)))) (Set.mem_univ _) ()
      (O := O) (W := W) (R := 0) (m := 0) (T := ∅) ((Nat.zero_add _).trans (expect_dma m ρ a hd).symm)

/-- A wait for the copy that credits cell `(a, d)`, for any spelling of the semaphore. -/
theorem step_wait (c d : Dev nD) (hd : d ≠ c) (a : Fin 4) {q : DmaSem sig} (hq : q = semk a d) (src dst : Memref sig .tc .vmem S32x512 .bf16)
    (hcred : ∀ q : DmaSem sig, dst.view.amount (.dma q) = N) (hsrc : src.view.WordExact) (hdst : dst.view.WordExact)
    (O : CellTallies nD τ sig Unit) (hO : (levAts L lv : sProp 𝕄) ⊢ MayWait (c : Thread nD τ) (csem (.inr (a, d))) () O)
    (Q : PUnit → sProp 𝕄) (k : P (F := F)) :
    iprop(ctx m ρ K ∗ owing c O ∗ (cred (tallyAt (dmaCell c a d) () N) ∗ atPos ER (dmaCell c a d) 0 ∅ 0))
      ⊢ iprop(((owing c O ∗ (atPos ER (dmaCell c a d) 1 ∅ 0 ∗ dmaPay m ρ c a d)) -∗ runs c k Q) -∗ runs c (.op (.waitDma2 q src dst hsrc hdst) fun _ => k) Q) := by
  have hm := ctx_may m ρ K c (csem (.inr (a, d))) O hO
  unfold owing
  iintro ⟨#HC, ⟨%W, HO⟩, Hc, Hat⟩ Hk
  iapply (rule_wait m ρ K c d hd a hq src dst hcred hsrc hdst O W Q k) $$ [Hc HO Hat]
  · isplitr; · iapply (ctx_inv m ρ K c (.inr (a, d))); iexact HC
    isplitl [Hc]; · iexact Hc
    isplitl [HO]; · iexact HO
    isplitr; · iapply hm; iexact HC
    iexact Hat
  iintro ⟨HO, Hat, -, Hp⟩
  iapply Hk
  isplitl [HO]
  · iexists _; iexact HO
  isplitl [Hat]; · iexact Hat
  iexact Hp

end Cert.Exchange

end
-- ==== Proof.Phases.lean ====
/-
# The phases of the kernel, each from what it takes to what it gives

Every phase is a rule for its stretch of the body followed by any program: the signals, the partial product, the barrier
wait, the sending of rows, the waits for the others' rows, the finishing of a device's own rows, their sending, the waits
for the others' finished rows, the result, the waits for the device's own sends.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One thing for each device other than `c`. -/
abbrev others (c : Dev nD) (Φ : Dev nD → sProp 𝕄) : sProp 𝕄 := bigSep (Finset.univ.erase c) Φ

/-! ## Sweeps over the other devices -/

theorem sweep_fwd (c : Dev nD) (op : Fin 15 → TpuEff nD τ sig (Elt F) Λ₀ .tc PUnit) (C : sProp 𝕄) [BI.Persistent C]
    (Own : List (Fin 15) → sProp 𝕄) (Pre Post : Dev nD → sProp 𝕄) (Q : PUnit → sProp 𝕄)
    (hstep : ∀ s l k, iprop(C ∗ Own (s :: l) ∗ Pre (fwd c s)) ⊢ iprop(((Own l ∗ Post (fwd c s)) -∗ runs c k Q) -∗ runs c (.op (op s) fun _ => k) Q))
    (k : P (F := F)) :
    iprop(C ∗ Own steps ∗ others c Pre) ⊢ iprop(((Own [] ∗ others c Post) -∗ runs c k Q) -∗ runs c (sweep op k) Q) := by
  unfold others
  rw [steps_fwd c Pre, steps_fwd c Post]
  exact wp_sweep c op C Own (fun s => Pre (fwd c s)) (fun s => Post (fwd c s)) Q hstep k

theorem sweep_back (c : Dev nD) (op : Fin 15 → TpuEff nD τ sig (Elt F) Λ₀ .tc PUnit) (C : sProp 𝕄) [BI.Persistent C]
    (Own : List (Fin 15) → sProp 𝕄) (Pre Post : Dev nD → sProp 𝕄) (Q : PUnit → sProp 𝕄)
    (hstep : ∀ s l k, iprop(C ∗ Own (s :: l) ∗ Pre (back c s)) ⊢ iprop(((Own l ∗ Post (back c s)) -∗ runs c k Q) -∗ runs c (.op (op s) fun _ => k) Q))
    (k : P (F := F)) :
    iprop(C ∗ Own steps ∗ others c Pre) ⊢ iprop(((Own [] ∗ others c Post) -∗ runs c k Q) -∗ runs c (sweep op k) Q) := by
  unfold others
  rw [steps_back c Pre, steps_back c Post]
  exact wp_sweep c op C Own (fun s => Pre (back c s)) (fun s => Post (back c s)) Q hstep k

omit [FloatOps F] in
theorem others_sep (c : Dev nD) (Φ Ψ : Dev nD → sProp 𝕄) : others c (fun d => iprop(Φ d ∗ Ψ d)) = iprop(others c Φ ∗ others c Ψ) :=
  bigSep_sep' _ Φ Ψ
omit [FloatOps F] in
theorem all_eq (c : Dev nD) (Φ : Dev nD → sProp 𝕄) : bigSep Finset.univ Φ = iprop(Φ c ∗ others c Φ) := bigSep_univ_split c

theorem owed_nil (o : Fin 15 → CellTallies nD τ sig Unit) (R : CellTallies nD τ sig Unit) : R + owed o [] = R := add_zero R

variable (m : (ℓ : Loc nD τ sig) → Buf (Elt F) ℓ) (ρ : Dev nD → PrngReg) (K : Dev nD × Kind → ℕ)

/-! ## The buffers -/

abbrev aPts (c : Dev nD) (f : (cc0_stg0_0 : Ref sig .tc).ty.Contents (Elt F)) : sProp 𝕄 := ((c : Thread nD τ).loc cc0_stg0_0) ↦{fullShare} f
abbrev bPts (c : Dev nD) (f : (cc0_stg1_0 : Ref sig .tc).ty.Contents (Elt F)) : sProp 𝕄 := ((c : Thread nD τ).loc cc0_stg1_0) ↦{fullShare} f
abbrev oPts (c : Dev nD) (f : (cc0_stg2_0 : Ref sig .tc).ty.Contents (Elt F)) : sProp 𝕄 := ((c : Thread nD τ).loc cc0_stg2_0) ↦{fullShare} f
abbrev pPts (c : Dev nD) (f : (cc0_scratch0 : Ref sig .tc).ty.Contents (Elt F)) : sProp 𝕄 := ((c : Thread nD τ).loc cc0_scratch0) ↦{fullShare} f
abbrev rPts (c : Dev nD) (f : (cc0_scratch1 : Ref sig .tc).ty.Contents (Elt F)) : sProp 𝕄 := ((c : Thread nD τ).loc cc0_scratch1) ↦{fullShare} f
abbrev gPts (c : Dev nD) (q : PosShare TreeShare) (f : (cc0_scratch2 : Ref sig .tc).ty.Contents (Elt F)) : sProp 𝕄 := ((c : Thread nD τ).loc cc0_scratch2) ↦{q} f

/-! ## The signals -/

omit [FloatOps F] in
theorem r_parts (c : Dev nD) (f) : (rPts c f : sProp 𝕄) ⊢ iprop((∃ f, rSlotP c c f) ∗ others c fun d => iprop(∃ f, rSlotP (F := F) c d f)) := by
  have h : (others c fun d => rSlotP c d f : sProp 𝕄) ⊢ others c fun d => iprop(∃ f, rSlotP (F := F) c d f) :=
    bigSep_mono fun d _ => exists_intro (Φ := fun f => rSlotP (F := F) c d f) f
  unfold rPts
  rw [r_split, all_eq c]
  iintro ⟨H, HO⟩
  isplitl [H]; · iexists f; iexact H
  iapply h; iexact HO
omit [FloatOps F] in
theorem g_parts (c : Dev nD) (f) : (gPts c fullShare f : sProp 𝕄) ⊢ iprop((∃ f, gSlotP c c fullShare f) ∗ others c fun d => iprop(∃ f, gSlotP (F := F) c d fullShare f)) := by
  have h : (others c fun d => gSlotP c d fullShare f : sProp 𝕄) ⊢ others c fun d => iprop(∃ f, gSlotP (F := F) c d fullShare f) :=
    bigSep_mono fun d _ => exists_intro (Φ := fun f => gSlotP (F := F) c d fullShare f) f
  unfold gPts
  rw [g_split, all_eq c]
  iintro ⟨H, HO⟩
  isplitl [H]; · iexists f; iexact H
  iapply h; iexact HO

theorem ph_signal (c : Dev nD) (Q : PUnit → sProp 𝕄) (k : P (F := F)) :
    iprop(ctx m ρ K ∗ owing c (O₀ c) ∗ (others c fun d => dutyTok ER (barCell d) 0 c) ∗ (∃ f, rPts c f) ∗ (∃ f, gPts c fullShare f))
      ⊢ iprop(((owing c (O₁ c) ∗ (∃ f, rSlotP c c f) ∗ (∃ f, gSlotP c c fullShare f)) -∗ runs c k Q) -∗ runs c (sweep (opSignal c) k) Q) := by
  have h := sweep_fwd c (opSignal (F := F) c) (ctx m ρ K) (fun l => owing c (O₁ c + owed (oSig c) l))
    (fun d => iprop(dutyTok ER (barCell d) 0 c ∗ barPay d c)) (fun _ => iprop(emp)) Q (step_signal m ρ K c Q) k
  rw [owed_nil, add_comm (O₁ c), others_sep] at h
  unfold barPay at h
  rw [others_sep] at h
  unfold O₀
  iintro ⟨#HC, HO, Ht, ⟨%f1, Hr⟩, ⟨%f2, Hg⟩⟩ Hk
  ihave Hr := (r_parts c f1) $$ Hr
  icases Hr with ⟨Hr, Hrs⟩
  ihave Hg := (g_parts c f2) $$ Hg
  icases Hg with ⟨Hg, Hgs⟩
  iapply h $$ [HO Ht Hrs Hgs]
  · isplitr; · iexact HC
    isplitl [HO]; · iexact HO
    isplitl [Ht]; · iexact Ht
    isplitl [Hrs]; · iexact Hrs
    iexact Hgs
  iintro ⟨HO, -⟩
  iapply Hk
  isplitl [HO]; · iexact HO
  isplitl [Hr]; · iexact Hr
  iexact Hg

/-! ## The partial product -/

theorem ph_part (c : Dev nD) (Q : PUnit → sProp 𝕄) (k : P (F := F)) {h1 h2 h3 h4 h5} :
    iprop(aPts c (xA m ρ c) ∗ bPts c (xB m ρ c) ∗ (∃ f, pPts c f))
      ⊢ iprop(((aPts c (xA m ρ c) ∗ bPts c (xB m ρ c) ∗ pPts c (part m ρ c)) -∗ runs c k Q)
        -∗ runs c (.op (.load aM rA.toLoadRect h1) fun v => .op (.load bM rB.toLoadRect h2) fun w => .op (.load pM rO.toLoadRect h3) fun _ =>
          .op (.store pM rO (k0_pay1 v w) Finset.univ h4 h5) fun _ => k) Q) := by
  iintro ⟨Ha, Hb, ⟨%f, Hp⟩⟩ Hk
  iapply (wp_load 𝒱₀ (c : Thread nD τ) none Set.univ (m := aM) (Finset.subset_univ _)) $$ Ha; iintro Ha
  rw [read_a]
  iapply (wp_load 𝒱₀ (c : Thread nD τ) none Set.univ (m := bM) (Finset.subset_univ _)) $$ Hb; iintro Hb
  rw [read_b]
  iapply (wp_load 𝒱₀ (c : Thread nD τ) none Set.univ (m := pM) (Finset.subset_univ _)) $$ Hp; iintro Hp
  iapply (wp_store 𝒱₀ (c : Thread nD τ) none Set.univ (m := pM) (r := rO) (Mk := Finset.univ) (Finset.subset_univ _)) $$ Hp; iintro Hp
  rw [write_p]
  iapply Hk
  isplitl [Ha]; · iexact Ha
  isplitl [Hb]; · iexact Hb
  iexact Hp

/-! ## The barrier wait -/

theorem ph_bar (c : Dev nD) (Q : PUnit → sProp 𝕄) (k : P (F := F)) :
    iprop(ctx m ρ K ∗ owing c (O₁ c) ∗ cred (tallyAt (barCell c) () 15) ∗ atPos ER (barCell c) 0 ∅ 0)
      ⊢ iprop(((owing c (O₁ c) ∗ atPos ER (barCell c) 1 ∅ 0 ∗ (others c fun d => iprop(∃ f, rSlotP d c f)) ∗ others c fun d => iprop(∃ f, gSlotP d c fullShare f)) -∗ runs c k Q)
        -∗ runs c (.op (.semWait barS ((15 : ℕ) : ℤ)) fun _ => k) Q) := by
  have hw : iprop(ctx m ρ K) ⊢ MayWait (c : Thread nD τ) (.reg barS) () (O₁ c) :=
    ctx_may m ρ K c _ _ (mayWait c (.reg barS) 1 (le_of_eq (congrArg lvk (kindOf_csem (.inl ())))) (O₁ c) fun g u => O₁_pos)
  have h (W : Waits sig Unit) := Rounds.wp_wait_rest_token (defs := defs₀ (F := F)) (Γ := PendingWaitsCtx.empty) (Q := Q) (k := fun _ => k) (Es := Set.univ)
      (w := .semWait barS ((15 : ℕ) : ℤ)) 𝒱₀ ER (Rd m ρ) (c : Thread nD τ) none (κ := K (c, .inl ())) (sm := .reg barS) (k' := 15)
      (wpE_semWait_eq 𝒱₀ (c : Thread nD τ) none Set.univ) (Set.mem_univ _) () (O := O₁ c) (W := W) (R := 0) (m := 0) (T := ∅)
      ((Nat.zero_add _).trans (expect_bar m ρ c).symm)
  have hp : bigSep ((Rd m ρ).duties ((c : Thread nD τ), .reg barS) 0 \ ∅) (fun d => (Rd m ρ).payload ((c : Thread nD τ), .reg barS) 0 d)
      = iprop((others c fun d => iprop(∃ f, rSlotP (F := F) d c f)) ∗ others c fun d => iprop(∃ f, gSlotP (F := F) d c fullShare f)) := by
    refine (rest_bar m ρ c).trans ?_
    unfold barPay
    exact others_sep c _ _
  unfold owing
  iintro ⟨#HC, ⟨%W, HO⟩, Hc, Hat⟩ Hk
  iapply (h W) $$ [HO Hc Hat]
  · isplitr; · iapply (ctx_inv m ρ K c (.inl ())); iexact HC
    isplitl [Hc]; · iexact Hc
    isplitl [HO]; · iexact HO
    isplitr; · iapply hw; iexact HC
    iexact Hat
  iintro ⟨HO, Hat, -, Hp⟩
  ihave Hp := (Entails.of_eq hp) $$ Hp
  icases Hp with ⟨Hr, Hg⟩
  iapply Hk
  isplitl [HO]; · iexists _; iexact HO
  isplitl [Hat]; · iexact Hat
  isplitl [Hr]; · iexact Hr
  iexact Hg

/-! ## The rows go out -/

theorem ph_scatter (c : Dev nD) (Q : PUnit → sProp 𝕄) (k : P (F := F)) :
    iprop(ctx m ρ K ∗ owing c (O₁ c) ∗ (others c fun d => dutyTok ER (dmaCell c 0 d) 0 d) ∗ (others c fun d => dutyTok ER (dmaCell d 1 c) 0 c)
        ∗ (others c fun d => pRows c d (part m ρ c)) ∗ others c fun d => iprop(∃ f, rSlotP d c f))
      ⊢ iprop(((owing c (O₂ c) ∗ others c fun d => cred (tallyAt (dmaCell c 0 d) () N)) -∗ runs c k Q) -∗ runs c (sweep (opScatter c) k) Q) := by
  have h := sweep_fwd c (opScatter (F := F) c) (ctx m ρ K) (fun l => owing c (O₂ c + owed (oDma 1 c) l))
    (fun d => iprop(dutyTok ER (dmaCell c 0 d) 0 d ∗ dutyTok ER (dmaCell d 1 c) 0 c ∗ pRows c d (part m ρ c) ∗ ∃ f, rSlotP d c f))
    (fun d => cred (tallyAt (dmaCell c 0 d) () N)) Q (step_scatter m ρ K c Q) k
  rw [owed_nil, add_comm (O₂ c), others_sep, others_sep, others_sep] at h
  exact h

theorem own_stored (c : Dev nD) (f : (cc0_scratch1 : Ref sig .tc).ty.Contents (Elt F)) :
    (((c : Thread nD τ).loc cc0_scratch1) ↦[slotSet c]{fullShare}
        ((rM.access (rSlot c)).write (Elt F) f (k0_pay2 ((pM.access (rRow c)).read (Elt F) (part m ρ c))) Finset.univ) : sProp 𝕄)
      ⊢ ((c : Thread nD τ).loc cc0_scratch1) ↦[slotSet c]{fullShare} rsAt m ρ c :=
  Entails.of_eq (pointsTo_congr fun i hi => stored_r m ρ c f i hi)

theorem ph_own (c : Dev nD) (Q : PUnit → sProp 𝕄) (k : P (F := F)) {h1 h2 h3 h4} :
    iprop(pRows c c (part m ρ c) ∗ (∃ f, rSlotP c c f))
      ⊢ iprop(((pRows c c (part m ρ c) ∗ rSlotP c c (rsAt m ρ c)) -∗ runs c k Q)
        -∗ runs c (.op (.load pM (rRow c).toLoadRect h1) fun v => .op (.load rM (rSlot c).toLoadRect h2) fun _ =>
          .op (.store rM (rSlot c) (k0_pay2 v) Finset.univ h3 h4) fun _ => k) Q) := by
  simp only [pRows_eq, rSlotP_eq]
  iintro ⟨Hp, ⟨%f, Hr⟩⟩ Hk
  iapply (wp_load_rect 𝒱₀ (c : Thread nD τ) none Set.univ (m := pM) (r := rRow c) (rRow_set c).subset) $$ Hp; iintro Hp
  iapply (wp_load_rect 𝒱₀ (c : Thread nD τ) none Set.univ (m := rM) (r := rSlot c) (rSlot_set_r c).subset) $$ Hr; iintro Hr
  iapply (wp_store 𝒱₀ (c : Thread nD τ) none Set.univ (m := rM) (r := rSlot c) (Mk := Finset.univ) (rSlot_set_r c).subset) $$ Hr; iintro Hr
  iapply Hk
  isplitl [Hp]; · iexact Hp
  iapply (own_stored m ρ c f); iexact Hr

/-! ## The waits for copies -/

theorem ph_back (c : Dev nD) (a : Fin 4) (sems : DmaSems sig S16) (b : Memref sig .tc .vmem S16x32x512 .bf16) (hb : b.IsWhole)
    (hq : ∀ s, semFrom sems c s = semk a (back c s)) (hcred : ∀ s, ∀ q : DmaSem sig, (slotFrom b c s).view.amount (.dma q) = N)
    (O : CellTallies nD τ sig Unit) (hO : ∀ d, (levAts L lv : sProp 𝕄) ⊢ MayWait (c : Thread nD τ) (csem (.inr (a, d))) () O)
    (Q : PUnit → sProp 𝕄) (k : P (F := F)) :
    iprop(ctx m ρ K ∗ owing c O ∗ (others c fun d => cred (tallyAt (dmaCell c a d) () N)) ∗ others c fun d => atPos ER (dmaCell c a d) 0 ∅ 0)
      ⊢ iprop(((owing c O ∗ (others c fun d => atPos ER (dmaCell c a d) 1 ∅ 0) ∗ others c fun d => dmaPay m ρ c a d) -∗ runs c k Q)
        -∗ runs c (sweep (opRecv sems b hb c) k) Q) := by
  have h := sweep_back c (opRecv (F := F) sems b hb c) (ctx m ρ K) (fun _ => owing c O)
    (fun d => iprop(cred (tallyAt (dmaCell c a d) () N) ∗ atPos ER (dmaCell c a d) 0 ∅ 0))
    (fun d => iprop(atPos ER (dmaCell c a d) 1 ∅ 0 ∗ dmaPay m ρ c a d)) Q
    (fun s l k => step_wait m ρ K c (back c s) (back_ne c s) a (hq s) (slotFrom b c s) (slotFrom b c s) (hcred s) (slotFrom_exact b hb c s) (slotFrom_exact b hb c s) O (hO _) Q k) k
  rw [others_sep, others_sep] at h
  exact h

theorem ph_fwd (c : Dev nD) (a : Fin 4) (op : Fin 15 → TpuEff nD τ sig (Elt F) Λ₀ .tc PUnit) (q : Fin 15 → DmaSem sig)
    (src dst : Fin 15 → Memref sig .tc .vmem S32x512 .bf16) (hsrc : ∀ s, (src s).view.WordExact) (hdst : ∀ s, (dst s).view.WordExact)
    (hop : ∀ s, op s = .waitDma2 (q s) (src s) (dst s) (hsrc s) (hdst s))
    (hq : ∀ s, q s = semk a (fwd c s)) (hcred : ∀ s, ∀ q : DmaSem sig, (dst s).view.amount (.dma q) = N)
    (Q : PUnit → sProp 𝕄) (k : P (F := F)) :
    iprop(ctx m ρ K ∗ owing c 0 ∗ (others c fun d => cred (tallyAt (dmaCell c a d) () N)) ∗ others c fun d => atPos ER (dmaCell c a d) 0 ∅ 0)
      ⊢ iprop(((owing c 0 ∗ (others c fun d => atPos ER (dmaCell c a d) 1 ∅ 0) ∗ others c fun d => dmaPay m ρ c a d) -∗ runs c k Q)
        -∗ runs c (sweep op k) Q) := by
  have h := sweep_fwd c op (ctx m ρ K) (fun _ => owing c 0)
    (fun d => iprop(cred (tallyAt (dmaCell c a d) () N) ∗ atPos ER (dmaCell c a d) 0 ∅ 0))
    (fun d => iprop(atPos ER (dmaCell c a d) 1 ∅ 0 ∗ dmaPay m ρ c a d)) Q
    (fun s l k => by rw [hop]; exact step_wait m ρ K c (fwd c s) (fwd_ne c s) a (hq s) (src s) (dst s) (hcred s) (hsrc s) (hdst s) 0 (mayWait_none c _) Q k) k
  rw [others_sep, others_sep] at h
  exact h

theorem ph_recv_rows (c : Dev nD) (Q : PUnit → sProp 𝕄) (k : P (F := F)) :
    iprop(ctx m ρ K ∗ owing c (O₂ c) ∗ (others c fun d => cred (tallyAt (dmaCell c 1 d) () N)) ∗ others c fun d => atPos ER (dmaCell c 1 d) 0 ∅ 0)
      ⊢ iprop(((owing c (O₂ c) ∗ (others c fun d => atPos ER (dmaCell c 1 d) 1 ∅ 0) ∗ others c fun d => rSlotP c d (rsAt m ρ c)) -∗ runs c k Q)
        -∗ runs c (sweep (opRecv cc0_scratch4 rM (Memref.isWhole_whole _) c) k) Q) :=
  ph_back m ρ K c 1 cc0_scratch4 rM (Memref.isWhole_whole _) (semFrom_4 c) (fun s q => by rw [slotFrom_eq]) (O₂ c)
    (fun d => mayWait c _ 2 (le_of_eq (congrArg lvk (kindOf_csem (.inr (1, d))))) (O₂ c) fun g u => O₂_pos) Q k

theorem ph_recv_done (c : Dev nD) (Q : PUnit → sProp 𝕄) (k : P (F := F)) :
    iprop(ctx m ρ K ∗ owing c 0 ∗ (others c fun d => cred (tallyAt (dmaCell c 3 d) () N)) ∗ others c fun d => atPos ER (dmaCell c 3 d) 0 ∅ 0)
      ⊢ iprop(((owing c 0 ∗ (others c fun d => atPos ER (dmaCell c 3 d) 1 ∅ 0) ∗ others c fun d => gSlotP c d fullShare (gAt m ρ)) -∗ runs c k Q)
        -∗ runs c (sweep (opRecv cc0_scratch6 gM (Memref.isWhole_whole _) c) k) Q) :=
  ph_back m ρ K c 3 cc0_scratch6 gM (Memref.isWhole_whole _) (semFrom_6 c) (fun s q => by rw [slotFrom_eq]) 0
    (fun d => mayWait_none c _) Q k

theorem ph_scattered (c : Dev nD) (Q : PUnit → sProp 𝕄) (k : P (F := F)) :
    iprop(ctx m ρ K ∗ owing c 0 ∗ (others c fun d => cred (tallyAt (dmaCell c 0 d) () N)) ∗ others c fun d => atPos ER (dmaCell c 0 d) 0 ∅ 0)
      ⊢ iprop(((owing c 0 ∗ (others c fun d => atPos ER (dmaCell c 0 d) 1 ∅ 0) ∗ others c fun d => pRows c d (part m ρ c)) -∗ runs c k Q)
        -∗ runs c (sweep (opScattered c) k) Q) :=
  ph_fwd m ρ K c 0 _ (semTo cc0_scratch3 c) (fun _ => slotOwn rM c) (rowsTo c) (fun _ => slotOwn_exact rM (Memref.isWhole_whole _) c) (rowsTo_exact c)
    (fun _ => rfl) (semTo_3 c) (fun s q => by rw [rowsTo_eq]) Q k

theorem ph_gathered (c : Dev nD) (Q : PUnit → sProp 𝕄) (k : P (F := F)) :
    iprop(ctx m ρ K ∗ owing c 0 ∗ (others c fun d => cred (tallyAt (dmaCell c 2 d) () N)) ∗ others c fun d => atPos ER (dmaCell c 2 d) 0 ∅ 0)
      ⊢ iprop(((owing c 0 ∗ (others c fun d => atPos ER (dmaCell c 2 d) 1 ∅ 0) ∗ others c fun d => gSlotP c c (sh d) (gAt m ρ)) -∗ runs c k Q)
        -∗ runs c (sweep (opGathered c) k) Q) :=
  ph_fwd m ρ K c 2 _ (semTo cc0_scratch5 c) (fun _ => slotOwn gM c) (fun _ => slotOwn gM c) (fun _ => slotOwn_exact gM (Memref.isWhole_whole _) c)
    (fun _ => slotOwn_exact gM (Memref.isWhole_whole _) c) (fun _ => rfl) (semTo_5 c) (fun s q => amount_g _ q) Q k

/-! ## The finished rows -/

theorem finish_stored (c : Dev nD) (f : (cc0_scratch2 : Ref sig .tc).ty.Contents (Elt F)) :
    (((c : Thread nD τ).loc cc0_scratch2) ↦[slotSet c]{fullShare} ((gM.access (rSlot c)).write (Elt F) f (rowsOf (rsAt m ρ c)) Finset.univ) : sProp 𝕄)
      ⊢ ((c : Thread nD τ).loc cc0_scratch2) ↦[slotSet c]{fullShare} gAt m ρ :=
  Entails.of_eq (pointsTo_congr fun i hi => stored_g m ρ c f i hi)

theorem ph_finish (c : Dev nD) (Q : PUnit → sProp 𝕄) (k : P (F := F)) {h1 h2 h3 h4} :
    iprop(rPts c (rsAt m ρ c) ∗ (∃ f, gSlotP c c fullShare f))
      ⊢ iprop(((rPts c (rsAt m ρ c) ∗ gSlotP c c fullShare (gAt m ρ)) -∗ runs c k Q)
        -∗ runs c (.op (.load rM rG.toLoadRect h1) fun v => .op (.load gM (rSlot c).toLoadRect h2) fun _ =>
          .op (.store gM (rSlot c) (rowsOf v) Finset.univ h3 h4) fun _ => k) Q) := by
  simp only [gSlotP_eq]
  iintro ⟨Hr, ⟨%f, Hg⟩⟩ Hk
  iapply (wp_load 𝒱₀ (c : Thread nD τ) none Set.univ (m := rM) (Finset.subset_univ _)) $$ Hr; iintro Hr
  rw [read_r]
  iapply (wp_load_rect 𝒱₀ (c : Thread nD τ) none Set.univ (m := gM) (r := rSlot c) (rSlot_set_g c).subset) $$ Hg; iintro Hg
  iapply (wp_store 𝒱₀ (c : Thread nD τ) none Set.univ (m := gM) (r := rSlot c) (Mk := Finset.univ) (rSlot_set_g c).subset) $$ Hg; iintro Hg
  iapply Hk
  isplitl [Hr]; · iexact Hr
  iapply (finish_stored m ρ c f); iexact Hg

theorem ph_gather (c : Dev nD) (Q : PUnit → sProp 𝕄) (k : P (F := F)) :
    iprop(ctx m ρ K ∗ owing c (O₂ c) ∗ (others c fun d => dutyTok ER (dmaCell c 2 d) 0 d) ∗ (others c fun d => dutyTok ER (dmaCell d 3 c) 0 c)
        ∗ (others c fun d => gSlotP c c (sh d) (gAt m ρ)) ∗ others c fun d => iprop(∃ f, gSlotP d c fullShare f))
      ⊢ iprop(((owing c 0 ∗ others c fun d => cred (tallyAt (dmaCell c 2 d) () N)) -∗ runs c k Q) -∗ runs c (sweep (opGather c) k) Q) := by
  have h := sweep_fwd c (opGather (F := F) c) (ctx m ρ K) (fun l => owing c (0 + owed (oDma 3 c) l))
    (fun d => iprop(dutyTok ER (dmaCell c 2 d) 0 d ∗ dutyTok ER (dmaCell d 3 c) 0 c ∗ gSlotP c c (sh d) (gAt m ρ) ∗ ∃ f, gSlotP d c fullShare f))
    (fun d => cred (tallyAt (dmaCell c 2 d) () N)) Q (step_gather m ρ K c Q) k
  rw [owed_nil, zero_add, others_sep, others_sep, others_sep] at h
  exact h

/-! ## The result -/

/-- A device's share of its gathered buffer, and the rest of the slots it received. -/
theorem g_whole (c : Dev nD) (f : (cc0_scratch2 : Ref sig .tc).ty.Contents (Elt F)) :
    (iprop(gSlotP c c (sh c) f ∗ others c fun d => gSlotP c d fullShare f) : sProp 𝕄)
      = iprop(gPts c (sh c) f ∗ others c fun d => others c fun i => gSlotP c d (sh i) f) := by
  have h1 (d : Dev nD) : (gSlotP c d fullShare f : sProp 𝕄) = iprop(gSlotP c d (sh c) f ∗ others c fun i => gSlotP c d (sh i) f) :=
    (g_shares c d f).trans (all_eq c _)
  unfold gPts
  rw [g_split, all_eq c, show (fun d => (gSlotP c d fullShare f : sProp 𝕄)) = fun d => iprop(gSlotP c d (sh c) f ∗ others c fun i => gSlotP c d (sh i) f) from funext h1,
    others_sep]
  exact equiv_iff.mp ⟨BI.sep_assoc', BI.sep_assoc⟩

theorem ph_out (c : Dev nD) (Q : PUnit → sProp 𝕄) (k : P (F := F)) {h1 h2 h3 h4} :
    iprop(gPts c (sh c) (gAt m ρ) ∗ (∃ f, oPts c f))
      ⊢ iprop(((gPts c (sh c) (gAt m ρ) ∗ oPts c (outAt m ρ)) -∗ runs c k Q)
        -∗ runs c (.op (.load gM rG.toLoadRect h1) fun v => .op (.load oM rO.toLoadRect h2) fun _ =>
          .op (.store oM rO (k0_pay7 v) Finset.univ h3 h4) fun _ => k) Q) := by
  iintro ⟨Hg, ⟨%f, Ho⟩⟩ Hk
  iapply (wp_load 𝒱₀ (c : Thread nD τ) none Set.univ (m := gM) (Finset.subset_univ _)) $$ Hg; iintro Hg
  rw [read_g]
  iapply (wp_load 𝒱₀ (c : Thread nD τ) none Set.univ (m := oM) (Finset.subset_univ _)) $$ Ho; iintro Ho
  iapply (wp_store 𝒱₀ (c : Thread nD τ) none Set.univ (m := oM) (r := rO) (Mk := Finset.univ) (Finset.subset_univ _)) $$ Ho; iintro Ho
  rw [write_o]
  iapply Hk
  isplitl [Hg]; · iexact Hg
  iexact Ho

end Cert.Exchange

end
-- ==== Proof.Body.lean ====
/-
# The body on one device

`body_core` puts the phases together. `body_obligation` states it as the launch asks for it.
-/
module

public import proofs.«01_k».proof.Proof.Phases
public import Idealize.ShloMosaic.Lib.Rounds.Family

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Kind → ℕ)

/-! ## What a device starts and ends with -/

/-- The tokens of the duties device `c` pays. -/
def payToks (c : Dev nD) : sProp 𝕄 :=
  iprop((others c fun d => dutyTok ER (barCell d) 0 c) ∗ (others c fun d => dutyTok ER (dmaCell c 0 d) 0 d) ∗ (others c fun d => dutyTok ER (dmaCell d 1 c) 0 c)
    ∗ (others c fun d => dutyTok ER (dmaCell c 2 d) 0 d) ∗ (others c fun d => dutyTok ER (dmaCell d 3 c) 0 c))
/-- Its positions at its copy cells of purpose `a`, every one with another device at round `r`. -/
def posAt (c : Dev nD) (a : Fin 4) (r : ℕ) : sProp 𝕄 :=
  iprop(atPos ER (dmaCell c a c) 0 ∅ 0 ∗ others c fun d => atPos ER (dmaCell c a d) r ∅ 0)
/-- Its positions and tokens. -/
def linear (c : Dev nD) : sProp 𝕄 :=
  iprop(atPos ER (barCell c) 0 ∅ 0 ∗ (posAt c 0 0 ∗ posAt c 1 0 ∗ posAt c 2 0 ∗ posAt c 3 0) ∗ payToks c)
/-- The credit it waits with at first. -/
def creds (c : Dev nD) : sProp 𝕄 :=
  iprop(cred (tallyAt (barCell c) () 15) ∗ (others c fun d => cred (tallyAt (dmaCell c 1 d) () N)) ∗ others c fun d => cred (tallyAt (dmaCell c 3 d) () N))
/-- Its scratch buffers, holding anything. -/
def scratch (c : Dev nD) : sProp 𝕄 := iprop((∃ f, pPts c f) ∗ (∃ f, rPts c f) ∗ ∃ f, gPts c fullShare f)
/-- Its copy cells' counters at zero, and its barrier cell's. -/
def zeros (c : Dev nD) : sProp 𝕄 :=
  iprop((bigSep Finset.univ fun x : Fin 4 × Dev nD => semVal (dmaCell c x.1 x.2) 0) ∗ semVal (barCell c) 0)

/-! ## Closing the cells -/

/-- The round at which a copy cell is closed: its own number's cell is never used. -/
def lastRound (c : Dev nD) (x : Fin 4 × Dev nD) : ℕ := if x.2 = c then 0 else 1

omit [FloatOps F] in
theorem posAt_eq (c : Dev nD) (a : Fin 4) :
    (posAt c a 1 : sProp 𝕄) = bigSep Finset.univ fun j : Dev nD => atPos ER (dmaCell c a j) (lastRound c (a, j)) ∅ 0 := by
  have h : (others c fun d => (atPos ER (dmaCell c a d) 1 ∅ 0 : sProp 𝕄)) = others c fun d => atPos ER (dmaCell c a d) (lastRound c (a, d)) ∅ 0 :=
    bigSep_congr fun d hd => by rw [lastRound, if_neg (Finset.ne_of_mem_erase hd)]
  unfold posAt
  rw [h, all_eq c, lastRound, if_pos rfl]

omit [FloatOps F] in
theorem four (Φ : Fin 4 → sProp 𝕄) : bigSep Finset.univ Φ = iprop(Φ 0 ∗ Φ 1 ∗ Φ 2 ∗ Φ 3) := bigSep_univ_eq_bigSepL [0, 1, 2, 3] (by decide) (by decide) Φ

theorem close_dma (c : Dev nD) :
    iprop(ctx m ρ K ∗ posAt c 0 1 ∗ posAt c 1 1 ∗ posAt c 2 1 ∗ posAt c 3 1)
      ⊢ (|={Set.univ}=> bigSep Finset.univ fun x : Fin 4 × Dev nD => semVal (dmaCell c x.1 x.2) 0 : sProp 𝕄) := by
  have h := Rounds.cells_close ER (Rd m ρ) (Finset.univ : Finset (Fin 4 × Dev nD)) (fun x => dmaCell c x.1 x.2) (fun x => K (c, .inr x)) (Es := Set.univ)
    (fun _ _ => Set.mem_univ _) (fun _ _ h => h) (lastRound c) (fun x _ r hr => by
      obtain ⟨a, j⟩ := x
      by_cases hj : j = c
      · subst hj; exact duties_self m ρ j a r (Nat.zero_le _)
      · rw [lastRound, if_neg hj] at hr; exact duties_later m ρ _ r hr)
  have hi : ctx m ρ K ⊢ bigSep Finset.univ fun x : Fin 4 × Dev nD => cellInv ER (Rd m ρ) (K (c, .inr x)) (dmaCell c x.1 x.2) :=
    (BI.bigSep_of_persistent (Finset.univ : Finset (Fin 4 × Dev nD)) (ctx m ρ K)).trans (bigSep_mono fun x _ => ctx_inv m ρ K c (.inr x))
  rw [bigSep_sep', bigSep_univ_prod (fun x : Fin 4 × Dev nD => (atPos ER (dmaCell c x.1 x.2) (lastRound c x) ∅ 0 : sProp 𝕄)), four] at h
  simp only [posAt_eq]
  exact (sep_mono_left hi).trans h

theorem close_bar (c : Dev nD) : iprop(ctx m ρ K ∗ atPos ER (barCell c) 1 ∅ 0) ⊢ (|={Set.univ}=> semVal (barCell c) 0 : sProp 𝕄) :=
  (sep_mono_left (ctx_inv m ρ K c (.inl ()))).trans
    (Rounds.cell_close ER (Rd m ρ) (Set.mem_univ (K (c, .inl ()))) (fun h => h) (R := 1) (duties_later m ρ (barCell c)))

/-! ## The whole body -/

/-- The slots a device holds, put together: the first landing buffer, -/
theorem r_join (c : Dev nD) (f) : iprop(rSlotP c c f ∗ others c fun d => rSlotP c d f) ⊢ (rPts c f : sProp 𝕄) :=
  Entails.of_eq ((all_eq c _).symm.trans (r_split c f).symm)
/-- the partial product, -/
theorem p_join (c : Dev nD) (f) : iprop(pRows c c f ∗ others c fun d => pRows c d f) ⊢ (pPts c f : sProp 𝕄) :=
  Entails.of_eq ((all_eq c _).symm.trans (p_split c f).symm)
theorem p_parts (c : Dev nD) (f) : (pPts c f : sProp 𝕄) ⊢ iprop(pRows c c f ∗ others c fun d => pRows c d f) :=
  Entails.of_eq ((p_split c f).trans (all_eq c _))
/-- the gathered buffer. -/
theorem g_join (c : Dev nD) (f) : iprop(gSlotP c c fullShare f ∗ others c fun d => gSlotP c d fullShare f) ⊢ (gPts c fullShare f : sProp 𝕄) :=
  Entails.of_eq ((all_eq c _).symm.trans (g_split c fullShare f).symm)
theorem g_deal (c : Dev nD) (f) : (gSlotP c c fullShare f : sProp 𝕄) ⊢ iprop(gSlotP c c (sh c) f ∗ others c fun d => gSlotP c c (sh d) f) :=
  Entails.of_eq ((g_shares c c f).trans (all_eq c _))
theorem g_back (c : Dev nD) (f) : iprop(gSlotP c c (sh c) f ∗ others c fun d => gSlotP c c (sh d) f) ⊢ (gSlotP c c fullShare f : sProp 𝕄) :=
  Entails.of_eq ((all_eq c _).symm.trans (g_shares c c f).symm)

/-- What the body takes -/
def bodyTakes (c : Dev nD) : sProp 𝕄 :=
  iprop(linear c ∗ creds c ∗ owing c (O₀ c) ∗ (aPts c (xA m ρ c) ∗ bPts c (xB m ρ c) ∗ ∃ f, oPts c f) ∗ scratch c)
/-- and gives. -/
def bodyGives (c : Dev nD) : sProp 𝕄 :=
  iprop(zeros c ∗ owing c 0 ∗ (aPts c (xA m ρ c) ∗ bPts c (xB m ρ c) ∗ oPts c (outAt m ρ)) ∗ scratch c)

theorem body_core (c : Dev nD) (Q : PUnit → sProp 𝕄) :
    iprop(ctx m ρ K ∗ bodyTakes m ρ c) ⊢ iprop((bodyGives m ρ c -∗ Q ⟨⟩) -∗ runs c (bodyProg c) Q) := by
  unfold bodyTakes linear creds payToks scratch posAt bodyProg
  iintro ⟨#HC, ⟨HatB, ⟨⟨Ha0, Hat0⟩, ⟨Ha1, Hat1⟩, ⟨Ha2, Hat2⟩, ⟨Ha3, Hat3⟩⟩, HtB, Ht0, Ht1, Ht2, Ht3⟩, ⟨HcB, Hc1, Hc3⟩, HO, ⟨HA, HB, HR⟩, HP, Hr, Hg⟩ Hk
  iapply (ph_signal m ρ K c Q _) $$ [HO HtB Hr Hg]
  · isplitr; · iexact HC
    isplitl [HO]; · iexact HO
    isplitl [HtB]; · iexact HtB
    isplitl [Hr]; · iexact Hr
    iexact Hg
  iintro ⟨HO, Hr, Hg⟩
  iapply (ph_part m ρ c Q _) $$ [HA HB HP]
  · isplitl [HA]; · iexact HA
    isplitl [HB]; · iexact HB
    iexact HP
  iintro ⟨HA, HB, HP⟩
  ihave HP := (p_parts c _) $$ HP
  icases HP with ⟨Hp, Hps⟩
  iapply (ph_bar m ρ K c Q _) $$ [HO HcB HatB]
  · isplitr; · iexact HC
    isplitl [HO]; · iexact HO
    isplitl [HcB]; · iexact HcB
    iexact HatB
  iintro ⟨HO, HatB, Hrs, Hgs⟩
  unfold scatterProg
  iapply (ph_scatter m ρ K c Q _) $$ [HO Ht0 Ht1 Hps Hrs]
  · isplitr; · iexact HC
    isplitl [HO]; · iexact HO
    isplitl [Ht0]; · iexact Ht0
    isplitl [Ht1]; · iexact Ht1
    isplitl [Hps]; · iexact Hps
    iexact Hrs
  iintro ⟨HO, Hc0⟩
  iapply (ph_own m ρ c Q _) $$ [Hp Hr]
  · isplitl [Hp]; · iexact Hp
    iexact Hr
  iintro ⟨Hp, Hr⟩
  iapply (ph_recv_rows m ρ K c Q _) $$ [HO Hc1 Hat1]
  · isplitr; · iexact HC
    isplitl [HO]; · iexact HO
    isplitl [Hc1]; · iexact Hc1
    iexact Hat1
  iintro ⟨HO, Hat1, Hrs⟩
  ihave Hr := (r_join c (rsAt m ρ c)) $$ [Hr Hrs]
  · isplitl [Hr]; · iexact Hr
    iexact Hrs
  unfold gatherProg
  iapply (ph_finish m ρ c Q _) $$ [Hr Hg]
  · isplitl [Hr]; · iexact Hr
    iexact Hg
  iintro ⟨Hr, Hg⟩
  ihave Hg := (g_deal c _) $$ Hg
  icases Hg with ⟨Hg, Hgo⟩
  iapply (ph_gather m ρ K c Q _) $$ [HO Ht2 Ht3 Hgo Hgs]
  · isplitr; · iexact HC
    isplitl [HO]; · iexact HO
    isplitl [Ht2]; · iexact Ht2
    isplitl [Ht3]; · iexact Ht3
    isplitl [Hgo]; · iexact Hgo
    iexact Hgs
  iintro ⟨HO, Hc2⟩
  iapply (ph_recv_done m ρ K c Q _) $$ [HO Hc3 Hat3]
  · isplitr; · iexact HC
    isplitl [HO]; · iexact HO
    isplitl [Hc3]; · iexact Hc3
    iexact Hat3
  iintro ⟨HO, Hat3, Hgs⟩
  ihave Hg := (Entails.of_eq (g_whole c (gAt m ρ))) $$ [Hg Hgs]
  · isplitl [Hg]; · iexact Hg
    iexact Hgs
  icases Hg with ⟨Hg, Hgs⟩
  unfold outProg
  iapply (ph_out m ρ c Q _) $$ [Hg HR]
  · isplitl [Hg]; · iexact Hg
    iexact HR
  iintro ⟨Hg, HR⟩
  ihave Hg := (Entails.of_eq (g_whole c (gAt m ρ)).symm) $$ [Hg Hgs]
  · isplitl [Hg]; · iexact Hg
    iexact Hgs
  icases Hg with ⟨Hg, Hgs⟩
  unfold tailProg
  iapply (ph_scattered m ρ K c Q _) $$ [HO Hc0 Hat0]
  · isplitr; · iexact HC
    isplitl [HO]; · iexact HO
    isplitl [Hc0]; · iexact Hc0
    iexact Hat0
  iintro ⟨HO, Hat0, Hps⟩
  iapply (ph_gathered m ρ K c Q _) $$ [HO Hc2 Hat2]
  · isplitr; · iexact HC
    isplitl [HO]; · iexact HO
    isplitl [Hc2]; · iexact Hc2
    iexact Hat2
  iintro ⟨HO, Hat2, Hgo⟩
  ihave HP := (p_join c (part m ρ c)) $$ [Hp Hps]
  · isplitl [Hp]; · iexact Hp
    iexact Hps
  ihave Hg := (g_back c (gAt m ρ)) $$ [Hg Hgo]
  · isplitl [Hg]; · iexact Hg
    iexact Hgo
  ihave Hg := (g_join c (gAt m ρ)) $$ [Hg Hgs]
  · isplitl [Hg]; · iexact Hg
    iexact Hgs
  imod (close_bar m ρ K c) $$ [HatB] with HzB
  · isplitr; · iexact HC
    iexact HatB
  imod (close_dma m ρ K c) $$ [Ha0 Hat0 Ha1 Hat1 Ha2 Hat2 Ha3 Hat3] with Hz
  · unfold posAt
    isplitr; · iexact HC
    isplitl [Ha0 Hat0]
    · isplitl [Ha0]; · iexact Ha0
      iexact Hat0
    isplitl [Ha1 Hat1]
    · isplitl [Ha1]; · iexact Ha1
      iexact Hat1
    isplitl [Ha2 Hat2]
    · isplitl [Ha2]; · iexact Ha2
      iexact Hat2
    isplitl [Ha3]; · iexact Ha3
    iexact Hat3
  rw [wp_ret]; imodintro
  iapply Hk
  unfold bodyGives zeros scratch
  isplitl [Hz HzB]
  · isplitl [Hz]; · iexact Hz
    iexact HzB
  isplitl [HO]; · iexact HO
  isplitl [HA HB HR]
  · isplitl [HA]; · iexact HA
    isplitl [HB]; · iexact HB
    iexact HR
  isplitl [HP]; · iexists _; iexact HP
  isplitl [Hr]; · iexists _; iexact Hr
  iexists _; iexact Hg

end Cert.Exchange

end
-- ==== Proof.Run.lean ====
/-
# The run

The body as the launch asks for it, the sixteen devices' cells and tokens dealt out, the credit they start with, and the
run of the whole program: `run_main`.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What the launch has allocated: every cell's invariant, and that round 0 of every cell has begun. -/
def known (K : Dev nD × Kind → ℕ) : sProp 𝕄 :=
  iprop((bigSep Finset.univ fun x : Dev nD × Kind => cellInv ER (Rd m ρ) (K x) (cell x.1 x.2))
    ∗ bigSep Finset.univ fun x : Dev nD × Kind => reached ER (cell x.1 x.2) 0)

instance known_persistent (K : Dev nD × Kind → ℕ) : BI.Persistent (known m ρ K) := by unfold known; infer_instance

theorem ctx_of_known (K : Dev nD × Kind → ℕ) : iprop(known m ρ K ∗ levAts L lv) ⊢ ctx m ρ K := by
  unfold known ctx; exact BI.sep_assoc

/-- What the global step gives a device. -/
def dealt (c : Dev nD) : sProp 𝕄 := iprop(∃ K, known m ρ K ∗ linear c)
/-- What a device starts its one grid point with. -/
def start (c : Dev nD) : sProp 𝕄 := iprop(dealt m ρ c ∗ creds c ∗ levAts L lv)

/-- The pipeline's data: each window's array at the launch, what the body leaves in its staging buffer, and what the body owes before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m ρ c
    | ⟨1, _⟩ => xB m ρ c
    | ⟨2, _⟩ => outAt m ρ
  Φ t := match t with
    | ⟨0, _⟩ => iprop(start m ρ c ∗ scratch c)
    | ⟨_ + 1, _⟩ => iprop(zeros c ∗ scratch c)
  q _ := fullShare
  owed t := match t with
    | ⟨0, _⟩ => O₀ c
    | ⟨_ + 1, _⟩ => 0

/-- Owning a whole buffer at given contents. -/
theorem owns_all (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's context at the one grid point. -/
def pointPre (c : Dev nD) : sProp 𝕄 :=
  iprop((start m ρ c ∗ scratch c) ∗ (dats m ρ 0 c).owesAt () (t0_0 : Fin cfg0.N).castSucc
    ∗ (∃ d, staged c cc0_stg0_0 ((dats m ρ 0 c).before (0 : Fin 3) t0_0 d))
    ∗ (∃ d, staged c cc0_stg1_0 ((dats m ρ 0 c).before (1 : Fin 3) t0_0 d))
    ∗ (∃ d, staged c cc0_stg2_0 ((dats m ρ 0 c).before (2 : Fin 3) t0_0 d)))
/-- What the body leaves at the one grid point. -/
def pointPost (c : Dev nD) : sProp 𝕄 :=
  iprop((zeros c ∗ scratch c) ∗ (dats m ρ 0 c).owesAt () (t0_0 : Fin cfg0.N).succ
    ∗ staged c cc0_stg0_0 (xA m ρ c) ∗ staged c cc0_stg1_0 (xB m ρ c) ∗ staged c cc0_stg2_0 (outAt m ρ))

set_option maxRecDepth 4000 in
/-- The body, at the one grid point. -/
theorem point (c : Dev nD) : pointPre m ρ c ⊢ wp frame (wpE (defs₀ (F := F)) 𝒱₀ c none) Set.univ
    (cc0_body (F := F) aM (Memref.isWhole_whole _) bM (Memref.isWhole_whole _) oM (Memref.isWhole_whole _)
      pM (Memref.isWhole_whole _) rM (Memref.isWhole_whole _) gM (Memref.isWhole_whole _) cc0_scratch3 cc0_scratch4 cc0_scratch5 cc0_scratch6)
    (fun _ => pointPost m ρ c) := by
  rw [body_eq, wp_deviceId]
  unfold pointPre start dealt
  iintro ⟨⟨⟨⟨%K, #HK, Hl⟩, Hcr, #Hlev⟩, Hs⟩, Ho, ⟨%d0, %g0, %hg0, Ha⟩, ⟨%d1, %g1, %hg1, Hb⟩, ⟨%d2, %g2, %hg2, HR⟩⟩
  have ha : g0 = xA m ρ c := by rw [hg0]; unfold Dat.before; rw [if_pos (fetch0_0 t0_0)]; rfl
  have hb : g1 = xB m ρ c := by rw [hg1]; unfold Dat.before; rw [if_pos (fetch0_1 t0_0)]; rfl
  subst ha hb
  unfold Dat.owesAt Pipeline.owesWithin
  icases Ho with ⟨%W, %hW, HO⟩
  rw [show (dats m ρ 0 c).owed (t0_0 : Fin cfg0.N).castSucc = O₀ c from rfl]
  iapply (body_core m ρ K c fun _ => pointPost m ρ c) $$ [Hl Hcr Hs HO Ha Hb HR]
  · isplitr
    · iapply (ctx_of_known m ρ K)
      isplitr; · iexact HK
      iexact Hlev
    unfold bodyTakes owing
    isplitl [Hl]; · iexact Hl
    isplitl [Hcr]; · iexact Hcr
    isplitl [HO]; · iexists W; iexact HO
    isplitl [Ha Hb HR]
    · isplitl [Ha]; · iexact Ha
      isplitl [Hb]; · iexact Hb
      iexists g2; iexact HR
    iexact Hs
  unfold bodyGives pointPost owing Dat.owesAt Pipeline.owesWithin
  iintro ⟨Hz, ⟨%W', HO⟩, ⟨Ha, Hb, HR⟩, Hs⟩
  rw [show (dats m ρ 0 c).owed (t0_0 : Fin cfg0.N).succ = 0 from rfl]
  isplitl [Hz Hs]
  · isplitl [Hz]; · iexact Hz
    iexact Hs
  isplitl [HO]
  · iexists W'
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact HR

set_option maxRecDepth 4000 in
/-- The body that the pipeline calls. -/
theorem point_body : defs₀ (F := F) Proc.tc (0 : Fin 1) (t0_0, cfg0.slots t0_0)
    = cc0_body (F := F) aM (Memref.isWhole_whole _) bM (Memref.isWhole_whole _) oM (Memref.isWhole_whole _)
      pM (Memref.isWhole_whole _) rM (Memref.isWhole_whole _) gM (Memref.isWhole_whole _) cc0_scratch3 cc0_scratch4 cc0_scratch5 cc0_scratch6 := rfl

theorem point_pre (c : Dev nD) : pointPre m ρ c = iprop((dats m ρ 0 c).Φ (t0_0 : Fin cfg0.N).castSucc ∗ (dats m ρ 0 c).owesAt () (t0_0 : Fin cfg0.N).castSucc
    ∗ (∃ d, staged c cc0_stg0_0 ((dats m ρ 0 c).before (0 : Fin 3) t0_0 d))
    ∗ (∃ d, staged c cc0_stg1_0 ((dats m ρ 0 c).before (1 : Fin 3) t0_0 d))
    ∗ (∃ d, staged c cc0_stg2_0 ((dats m ρ 0 c).before (2 : Fin 3) t0_0 d))) := rfl
theorem point_post (c : Dev nD) : pointPost m ρ c = iprop((dats m ρ 0 c).Φ (t0_0 : Fin cfg0.N).succ ∗ (dats m ρ 0 c).owesAt () (t0_0 : Fin cfg0.N).succ
    ∗ staged c cc0_stg0_0 ((dats m ρ 0 c).after (0 : Fin 3) t0_0) ∗ staged c cc0_stg1_0 ((dats m ρ 0 c).after (1 : Fin 3) t0_0)
    ∗ staged c cc0_stg2_0 ((dats m ρ 0 c).after (2 : Fin 3) t0_0)) := rfl

set_option maxRecDepth 4000 in
/-- The body, as the pipeline asks for it. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  simp only [owns_all]
  have h := point m ρ c
  rw [← point_body, point_pre, point_post] at h
  generalize defs₀ (F := F) Proc.tc (0 : Fin 1) (t0_0, cfg0.slots t0_0) = p at h ⊢
  exact h

/-! ## The semaphores -/

/-- The copy cells' semaphores. -/
abbrev osem (x : Fin 4 × Dev nD) : SemLoc sig := csem (.inr x)

/-- The copy cells' semaphores are the kernel's own. -/
theorem osem_facts : Pipeline.OwnSemFacts cfg0.spec osem :=
  ⟨by decide +kernel, fun x y h => Sum.inr.inj (csem_injective h), by decide +kernel⟩

/-- Every window's array is held whole. -/
theorem share_eq (c : Dev nD) (w : Fin cfg0.W) : (dats m ρ 0 c).share w = fullShare := by unfold Dat.share; split <;> rfl

omit [FloatOps F] in
/-- The one semaphore that outlives the call is the barrier's. -/
theorem unscoped_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
/-- A family over a device's cells: the barrier's, and the copy cells'. -/
theorem kinds (Φ : Kind → sProp 𝕄) : bigSep Finset.univ Φ = iprop(Φ (.inl ()) ∗ bigSep Finset.univ fun x : Fin 4 × Dev nD => Φ (.inr x)) := by
  rw [bigSep_univ_sum, bigSep_univ_of_subsingleton (Φ := fun a : Unit => Φ (.inl a)) ()]; rfl

/-! ## Cells and tokens -/

/-- Cells are told apart by device and kind. -/
theorem cell_injective : Function.Injective fun x : Dev nD × Kind => cell x.1 x.2 := by
  rintro ⟨c, k⟩ ⟨c', k'⟩ h
  have h1 : c = c' := congrArg (fun g : GSem nD τ sig => g.1.1) h
  have h2 : k = k' := csem_injective (congrArg Prod.snd h)
  rw [h1, h2]
/-- Every cell of every device. -/
def allCells : Finset (GSem nD τ sig) := Finset.univ.map ⟨_, cell_injective⟩

/-- A token's cell and payer: barrier cells have one for each device, copy cells one for their partner. -/
abbrev tokOf (x : Dev nD × (Dev nD ⊕ (Fin 4 × Dev nD))) : GSem nD τ sig × ℕ × Dev nD :=
  match x.2 with
  | .inl d => (barCell x.1, 0, d)
  | .inr y => (cell x.1 (.inr y), 0, y.2)
/-- Tokens are told apart by cell and payer. -/
theorem tokOf_injective : Function.Injective tokOf := by
  rintro ⟨c, k⟩ ⟨c', k'⟩ h
  rcases k with d | y <;> rcases k' with d' | y'
  · have h1 : c = c' := congrArg (fun x : GSem nD τ sig × ℕ × Dev nD => x.1.1.1) h
    have h2 : d = d' := congrArg (fun x : GSem nD τ sig × ℕ × Dev nD => x.2.2) h
    rw [h1, h2]
  · have h1 : csem (.inl ()) = csem (.inr y') := congrArg (fun x : GSem nD τ sig × ℕ × Dev nD => x.1.2) h
    cases csem_injective h1
  · have h1 : csem (.inr y) = csem (.inl ()) := congrArg (fun x : GSem nD τ sig × ℕ × Dev nD => x.1.2) h
    cases csem_injective h1
  · have h1 : c = c' := congrArg (fun x : GSem nD τ sig × ℕ × Dev nD => x.1.1.1) h
    have h2 : y = y' := Sum.inr.inj (csem_injective (congrArg (fun x : GSem nD τ sig × ℕ × Dev nD => x.1.2) h))
    rw [h1, h2]
/-- Every token. -/
def allToks : Finset (GSem nD τ sig × ℕ × Dev nD) := Finset.univ.map ⟨tokOf, tokOf_injective⟩

/-- The launch element. -/
def u₀ : UU :=
  (initOf (Pipeline.cells cfgs cellOf_inj) (Pipeline.launchToks cfgs cellOf_inj), initOf allCells allToks)

/-- The tokens of a device's own cells. -/
def ownToks (c : Dev nD) : sProp 𝕄 :=
  iprop((bigSep Finset.univ fun d : Dev nD => dutyTok ER (barCell c) 0 d) ∗ bigSep Finset.univ fun x : Fin 4 × Dev nD => dutyTok ER (dmaCell c x.1 x.2) 0 x.2)

/-- What the launch element gives a device. -/
def funded (c : Dev nD) : sProp 𝕄 :=
  iprop((bigSep Finset.univ fun k : Kind => roundState ER (Rd m ρ) (cell c k) 0)
    ∗ (bigSep Finset.univ fun k : Kind => iprop(atPos ER (cell c k) 0 ∅ 0 ∗ reached ER (cell c k) 0)) ∗ ownToks c)

/-- The launch element gives every device its cells' states, positions and tokens. -/
theorem fund_all : BI.own (ER (initOf allCells allToks)) ⊢ (|==> bigSep Finset.univ (funded m ρ) : sProp 𝕄) := by
  have hX (Φ : GSem nD τ sig → sProp 𝕄) : bigSep allCells Φ = bigSep Finset.univ fun c : Dev nD => bigSep Finset.univ fun k : Kind => Φ (cell c k) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by unfold ownToks; rw [bigSep_univ_sum]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold funded; simp only [bigSep_sep']
  isplitl [Hst']; · iexact Hst'
  isplitl [Hat' Hr']
  · isplitl [Hat'] <;> iassumption
  iexact Htok'

/-- A device's counters and states become its cells' invariants. -/
theorem alloc (c : Dev nD) :
    iprop(Pipeline.ownSems0 (Ix := Unit) (Name := ℕ) (U := UU) (Lvl := ℕ) (Val := Elt F) (τ := τ) osem c ∗ unscopedSems0 c ∗ funded m ρ c)
      ⊢ |={Set.univ}=> iprop((bigSep Finset.univ fun k : Kind => iprop(∃ κ : ℕ, cellInv ER (Rd m ρ) κ (cell c k)))
          ∗ (bigSep Finset.univ fun k : Kind => iprop(atPos ER (cell c k) 0 ∅ 0 ∗ reached ER (cell c k) 0)) ∗ ownToks c) := by
  have hv : iprop(Pipeline.ownSems0 (Ix := Unit) (Name := ℕ) (U := UU) (Lvl := ℕ) (Val := Elt F) (τ := τ) osem c ∗ unscopedSems0 c)
      ⊢ (bigSep Finset.univ fun k : Kind => semVal (cell c k) 0 : sProp 𝕄) := by
    rw [kinds, unscoped_eq]
    exact BI.sep_comm
  unfold funded
  iintro ⟨Hos, Hus, Hst, Hat, Htok⟩
  ihave Hv := hv $$ [Hos Hus]
  · isplitl [Hos] <;> iassumption
  imod (show iprop((bigSep Finset.univ fun k : Kind => semVal (cell c k) 0) ∗ bigSep Finset.univ fun k : Kind => roundState ER (Rd m ρ) (cell c k) 0)
      ⊢ (|={Set.univ}=> bigSep Finset.univ fun k : Kind => iprop(∃ κ : ℕ, cellInv ER (Rd m ρ) κ (cell c k)) : sProp 𝕄) from by
        rw [← bigSep_sep']
        exact (bigSep_mono fun k _ => (Rounds.body_intro ER (Rd m ρ) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens -/

omit [FloatOps F] in
/-- A family over all devices gives the others'. -/
theorem drop_own (c : Dev nD) (Φ : Dev nD → sProp 𝕄) : bigSep Finset.univ Φ ⊢ others c Φ := bigSep_subset (Finset.erase_subset _ _)

/-- A family of tokens, one for each pair of devices, from the cells' holders to the payers. -/
theorem across (Φ : Dev nD → Dev nD → sProp 𝕄) :
    (bigSep Finset.univ fun c => bigSep Finset.univ (Φ c)) ⊢ bigSep Finset.univ fun d => others d fun c => Φ c d :=
  (bigSep_mono fun c _ => drop_own c (Φ c)).trans (Entails.of_eq (bigSep_erase_comm Φ))

/-- Every token to its payer. -/
theorem deal_toks : (bigSep Finset.univ fun c : Dev nD => (ownToks c : sProp 𝕄)) ⊢ bigSep Finset.univ fun c : Dev nD => payToks c := by
  have hk (Φ : Dev nD → Dev nD → sProp 𝕄) : (bigSep Finset.univ fun c => bigSep Finset.univ (Φ c)) ⊢ bigSep Finset.univ fun c => others c (Φ c) :=
    bigSep_mono fun c _ => drop_own c (Φ c)
  unfold ownToks payToks
  simp only [bigSep_univ_prod, four]
  simp only [bigSep_sep']
  iintro ⟨HB, H0, H1, H2, H3⟩
  isplitl [HB]; · iapply (across fun c d => (dutyTok ER (barCell c) 0 d : sProp 𝕄)); iexact HB
  isplitl [H0]; · iapply (hk fun c d => (dutyTok ER (dmaCell c 0 d) 0 d : sProp 𝕄)); iexact H0
  isplitl [H1]; · iapply (across fun c d => (dutyTok ER (dmaCell c 1 d) 0 d : sProp 𝕄)); iexact H1
  isplitl [H2]; · iapply (hk fun c d => (dutyTok ER (dmaCell c 2 d) 0 d : sProp 𝕄)); iexact H2
  iapply (across fun c d => (dutyTok ER (dmaCell c 3 d) 0 d : sProp 𝕄)); iexact H3

/-- A device's positions, cell by cell, as the body names them. -/
theorem positions (c : Dev nD) : (bigSep Finset.univ fun k : Kind => (atPos ER (cell c k) 0 ∅ 0 : sProp 𝕄))
    = iprop(atPos ER (barCell c) 0 ∅ 0 ∗ posAt c 0 0 ∗ posAt c 1 0 ∗ posAt c 2 0 ∗ posAt c 3 0) := by
  have h (a : Fin 4) : (bigSep Finset.univ fun j : Dev nD => (atPos ER (dmaCell c a j) 0 ∅ 0 : sProp 𝕄)) = posAt c a 0 := all_eq c _
  rw [kinds, bigSep_univ_prod, four]
  simp only [h]

/-- A fact that can be copied goes to every member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What the devices have allocated, regrouped: one choice of names, and each device's own share. -/
theorem regroup :
    (bigSep Finset.univ fun c : Dev nD => iprop((bigSep Finset.univ fun k : Kind => iprop(∃ κ : ℕ, cellInv ER (Rd m ρ) κ (cell c k)))
          ∗ (bigSep Finset.univ fun k : Kind => iprop(atPos ER (cell c k) 0 ∅ 0 ∗ reached ER (cell c k) 0)) ∗ ownToks c) : sProp 𝕄)
      ⊢ bigSep Finset.univ (dealt m ρ) := by
  have hd (K : Dev nD × Kind → ℕ) (c : Dev nD) : iprop(known m ρ K ∗ linear c) ⊢ dealt m ρ c := by
    unfold dealt
    exact exists_intro (Φ := fun K => iprop(known m ρ K ∗ linear c)) K
  have hl : iprop((bigSep Finset.univ fun c : Dev nD => bigSep Finset.univ fun k : Kind => (atPos ER (cell c k) 0 ∅ 0 : sProp 𝕄)) ∗ bigSep Finset.univ fun c : Dev nD => payToks c)
      ⊢ bigSep Finset.univ fun c : Dev nD => (linear c : sProp 𝕄) := by
    rw [← bigSep_sep']
    refine bigSep_mono fun c _ => ?_
    rw [positions]
    unfold linear
    refine (show iprop((atPos ER (barCell c) 0 ∅ 0 ∗ posAt c 0 0 ∗ posAt c 1 0 ∗ posAt c 2 0 ∗ posAt c 3 0) ∗ payToks c)
      ⊢ (iprop(atPos ER (barCell c) 0 ∅ 0 ∗ (posAt c 0 0 ∗ posAt c 1 0 ∗ posAt c 2 0 ∗ posAt c 3 0) ∗ payToks c) : sProp 𝕄) from ?_)
    iintro ⟨⟨HB, HP⟩, HT⟩
    isplitl [HB]; · iexact HB
    isplitl [HP]; · iexact HP
    iexact HT
  rw [bigSep_sep', bigSep_sep', ← bigSep_univ_prod (fun x : Dev nD × Kind => iprop(∃ κ : ℕ, cellInv ER (Rd m ρ) κ (cell x.1 x.2))),
    bigSep_congr (s := Finset.univ) (fun (c : Dev nD) _ => bigSep_sep' Finset.univ (fun k : Kind => (atPos ER (cell c k) 0 ∅ 0 : sProp 𝕄)) (fun k => reached ER (cell c k) 0)),
    bigSep_sep', ← bigSep_univ_prod (fun x : Dev nD × Kind => (reached ER (cell x.1 x.2) 0 : sProp 𝕄))]
  iintro ⟨HI, ⟨Hat, #HR⟩, Htok⟩
  ihave HK := (BI.bigSep_exists_pi Finset.univ (fun (x : Dev nD × Kind) (κ : ℕ) => (cellInv ER (Rd m ρ) κ (cell x.1 x.2) : sProp 𝕄))) $$ HI
  icases HK with ⟨%K, #HI⟩
  ihave Htk := (deal_toks (F := F)) $$ Htok
  iapply (with_persistent (R := known m ρ K) fun c _ => hd K c)
  isplitr
  · unfold known; isplitl; · iexact HI
    iexact HR
  · iapply hl
    isplitl [Hat]; · iexact Hat
    iexact Htk

/-- The global step. -/
theorem glob : (bigSep Finset.univ fun c => iprop(Pipeline.ownSems0 (Ix := Unit) (Name := ℕ) (U := UU) (Lvl := ℕ) (Val := Elt F) (τ := τ) osem c ∗ unscopedSems0 c ∗ funded m ρ c) : sProp 𝕄)
    ⊢ |={Set.univ}=> bigSep Finset.univ (dealt m ρ) :=
  ((bigSep_mono fun c _ => alloc m ρ c).trans (bigSep_fupd _ _)).trans (BI.fupd_mono (regroup m ρ))

/-! ## The credit -/

/-- A sweep's debt to a cell, step by step. -/
theorem owed_apply (o : Fin 15 → CellTallies nD τ sig Unit) (g : GSem nD τ sig) : owed o steps g () = ∑ s, o s g () := by
  have h (l : List (Fin 15)) : owed o l g () = (l.map fun s => o s g ()).sum := by
    induction l with
    | nil => rfl
    | cons s l ih => show o s g () + owed o l g () = _; rw [ih]; rfl
  rw [h, ← List.sum_toFinset _ (by decide), show steps.toFinset = Finset.univ from by decide]

/-- Two cells are one when their devices and kinds are. -/
theorem cell_iff {c c' : Dev nD} {k k' : Kind} : cell c k = cell c' k' ↔ c = c' ∧ k = k' :=
  ⟨fun h => by have := cell_injective (a₁ := (c, k)) (a₂ := (c', k')) h; exact ⟨congrArg Prod.fst this, congrArg Prod.snd this⟩, fun ⟨h, h'⟩ => by rw [h, h']⟩

/-- What device `d` owes a cell of device `c`. -/
theorem O₀_at (d c : Dev nD) (k : Kind) : O₀ d (cell c k) ()
    = (∑ s, if c = fwd d s ∧ k = .inl () then 1 else 0) + ((∑ s, if c = fwd d s ∧ k = .inr (1, d) then N else 0) + ∑ s, if c = fwd d s ∧ k = .inr (3, d) then N else 0) := by
  show owed (oSig d) steps (cell c k) () + (owed (oDma 1 d) steps (cell c k) () + owed (oDma 3 d) steps (cell c k) ()) = _
  rw [owed_apply, owed_apply, owed_apply]
  simp only [oSig, oDma, tallyAt_apply, cell_iff, and_true]

/-- Every other device is met once on the ring. -/
theorem fwd_once : ∀ d c : Dev nD, (∑ s, if c = fwd d s then 1 else 0) = if c = d then 0 else 1 := by decide +kernel

/-- A barrier cell is owed fifteen units in all. -/
theorem owed_bar (c : Dev nD) : ∑ d, O₀ d (barCell c) () = 15 := by
  have h (d : Dev nD) : O₀ d (barCell c) () = if c = d then 0 else 1 := by
    rw [O₀_at, ← fwd_once d c]
    simp
  rw [Finset.sum_congr rfl fun d _ => h d]
  clear h
  revert c
  decide +kernel
/-- A receive cell is owed one landing. -/
theorem owed_dma (c j : Dev nD) (hj : j ≠ c) (a : Fin 4) (ha : a = 1 ∨ a = 3) : ∑ d, O₀ d (dmaCell c a j) () = N := by
  have h1 (d : Dev nD) : (∑ s, if c = fwd d s then N else 0) = if c = d then 0 else N := by
    have := congrArg (· * N) (fwd_once d c)
    rw [Finset.sum_mul] at this
    simp only [ite_mul, one_mul, zero_mul] at this
    exact this
  have h (d : Dev nD) : O₀ d (dmaCell c a j) () = if j = d then N else 0 := by
    rw [O₀_at]
    by_cases hd : j = d
    · subst hd
      have := h1 j
      rw [if_neg hj.symm] at this
      rcases ha with rfl | rfl <;> simp [this]
    · rcases ha with rfl | rfl <;> simp [hd]
  rw [Finset.sum_congr rfl fun d _ => h d, Finset.sum_ite_eq, if_pos (Finset.mem_univ _)]

/-- The credit of a cell is what it is owed in all. -/
theorem credit_at (g : GSem nD τ sig) (n : ℕ) (h : ∑ d, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

omit [FloatOps F] in
/-- The launch's credit of a device, as the body names it. -/
theorem creds_of (c : Dev nD) : (Pipeline.launchCred O₀ c : sProp 𝕄) ⊢ creds c := by
  have hsub : (Pipeline.launchCred O₀ c : sProp 𝕄)
      ⊢ bigSep Finset.univ fun k : Kind => (cred (tallyOn (cell c k) (launchCredit (Pipeline.owing O₀) 0 (cell c k))) : sProp 𝕄) := by
    unfold Pipeline.launchCred
    refine (bigSep_subset (Finset.subset_univ (Finset.univ.map ⟨csem, csem_injective⟩))).trans ?_
    rw [bigSep_map]
    exact Idealize.SL.BI.Entails.refl _
  have hd (a : Fin 4) (ha : a = 1 ∨ a = 3) :
      (bigSep Finset.univ fun j : Dev nD => (cred (tallyOn (dmaCell c a j) (launchCredit (Pipeline.owing O₀) 0 (dmaCell c a j))) : sProp 𝕄))
        ⊢ others c fun d => cred (tallyAt (dmaCell c a d) () N) :=
    (drop_own c _).trans (bigSep_mono fun j hj => by rw [credit_at _ _ (owed_dma c j (Finset.ne_of_mem_erase hj) a ha)]; exact Idealize.SL.BI.Entails.refl _)
  refine hsub.trans ?_
  rw [kinds, bigSep_univ_prod, four, credit_at _ _ (owed_bar c)]
  unfold creds
  iintro ⟨HB, -, H1, -, H3⟩
  isplitl [HB]; · iexact HB
  isplitl [H1]; · iapply (hd 1 (Or.inl rfl)); iexact H1
  iapply (hd 3 (Or.inr rfl)); iexact H3

/-! ## The launch's side conditions -/

/-- The launch gives a device its start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m ρ c)
      ⊢ |={Set.univ}=> iprop(start m ρ c ∗ emp) := by
  iintro ⟨-, Hlev, Hcr, -, HG⟩
  ihave Hc := (creds_of (F := F) c) $$ Hcr
  imodintro
  unfold start
  isplitl
  · isplitl [HG]; · iexact HG
    isplitl [Hc]; · iexact Hc
    iexact Hlev
  · iempintro

/-- The start and the scratch buffers are the body's context. -/
theorem point_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scratch c) from rfl, scopedRest0_eq]
  unfold scratch
  iintro ⟨Hs, -, Hr⟩
  isplitl [Hs]; · iexact Hs
  iexact Hr

/-- What the body leaves: every counter at zero, and the scratch buffers. -/
theorem point_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(zeros c ∗ scratch c) from rfl, scopedRest0_eq, unscoped_eq]
  unfold zeros scratch Pipeline.ownSems0
  iintro ⟨⟨Hz, HB⟩, Hr⟩
  isplitl [HB]; · iexact HB
  isplitl [Hz]; · iexact Hz
  iexact Hr

/-- The pipeline's own waits lie below everything owed. -/
theorem waits (c : Dev nD) : (levAts L lv : sProp 𝕄) ⊢ Pipeline.cellsWaits cfgs (dats m ρ) () 0 c :=
  Pipeline.cellsWaits_intro cfgs (dats m ρ) () 0 c fun w s t => by
    have hk : lvk (kindOf (.dma ((cfg0.win w).sem s))) ≤ 0 := by revert w s; decide +kernel
    rcases t with ⟨_ | _, ht⟩
    · exact mayWait c _ 0 hk (O₀ c) fun g u => O₀_pos
    · exact mayWait_none c _

/-! ## The run -/

/-- A window's array after the run. -/
def finalA (c : Dev nD) (w : Fin cfg0.W) : Buf (Elt F) ((cfg0.win w).arr.view.loc (c : Thread nD τ)) := (dats m ρ 0 c).arrAt w cfg0.N

set_option maxRecDepth 8000 in
/-- From any memory with zero counters, at any float values, every weakly fair run ends with every window's array at its
    computed contents on every device and every counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := funded m ρ) (G' := dealt m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := point_in m ρ) (hout := point_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The first operand's array ends as it was. -/
theorem final_a (c : Dev nD) : finalA m ρ c (0 : Fin 3) = (s₀ m ρ).mem (win0_0.arr.view.loc (c : Thread nD τ)) :=
  (dats (F := F) m ρ 0 c).arrAt_in (0 : Fin 3) rfl _
/-- The second operand's array ends as it was. -/
theorem final_b (c : Dev nD) : finalA m ρ c (1 : Fin 3) = (s₀ m ρ).mem (win0_1.arr.view.loc (c : Thread nD τ)) :=
  (dats (F := F) m ρ 0 c).arrAt_in (1 : Fin 3) rfl _

end Cert.Exchange

end
-- ==== Proof.Value.lean ====
/-
# The value

Over the extended reals: sixteen partial products summed are the whole product, the gathered rows are the whole array, and
gelu of the one is gelu of the other.
-/
module

public import proofs.«01_k».proof.Proof.Run
public import proofs.«01_k».proof.Proof.Gen.ReferenceIdeal.Run
public import Idealize.ShloMosaic.Lib.Pointwise
public import Idealize.ShloMosaic.Lib.Layout

@[expose] public section

noncomputable section

namespace Cert.Exchange

open Cert.KernelIdeal Cert.KernelIdeal.Gen
open Idealize.ShloMosaic
open Idealize.ShloMosaic.TcCoe
open Idealize.SL.Sem

/-! ## The kernel's operations, entry by entry -/

/-- The tanh form of gelu of one number. -/
def gelu1 (z : EReal) : EReal :=
  (Ideal.ofBits .f32 0x3F000000#32 * z) * (Ideal.ofBits .f32 0x3F800000#32 + Ideal.tanh (Ideal.ofBits .f32 0x3F4C422A#32 * (z + ((Ideal.ofBits .f32 0x3D372713#32 * z) * z) * z)))

/-- An entry of a device's partial product. -/
theorem product_apply (x : FVec Ideal S512x256 .f32) (y : FVec Ideal S256x512 .f32) (r l : Fin 512) :
    (k0_pay1 (F := Ideal) x y (ix2 r l) : EReal) = ∑ k : Fin 256, (x (ix2 r k) : EReal) * y (ix2 k l) := by
  pointwise [k0_pay1]

/-- An entry of the sum of the sixteen landed pieces. -/
theorem sum_apply (v : FVec Ideal S16x32x512 .bf16) (r : Fin 32) (l : Fin 512) :
    (k0_pay3 (F := Ideal) v (ix2 r l) : EReal) = ∑ d : Fin 16, (v (ix3 d r l) : EReal) := by
  pointwise [k0_pay3]

/-- An entry of a device's finished rows. -/
theorem rows_apply (v : FVec Ideal S16x32x512 .bf16) (r : Fin 32) (l : Fin 512) :
    (rowsOf (F := Ideal) v (ix3 (n0 := 1) 0 r l) : EReal) = gelu1 (∑ d : Fin 16, (v (ix3 d r l) : EReal)) := by
  pointwise [rowsOf, k0_pay6, k0_pay4, k0_pay5, sum_apply, gelu1]

/-- An entry of the result: the gathered buffer's, row by row. -/
theorem result_apply (v : FVec Ideal S16x32x512 .bf16) (i j : Fin 512) :
    (k0_pay7 (F := Ideal) v (ix2 i j) : EReal) = v (ix3 (⟨i.val / 32, by omega⟩ : Fin 16) (⟨i.val % 32, by omega⟩ : Fin 32) j) := by
  pointwise [k0_pay7]

/-- The reference's gelu of the whole product. -/
def refOut (z : FVec Ideal Cert.ReferenceIdeal.S512x512 .f32) : FVec Ideal Cert.ReferenceIdeal.S512x512 .f32 :=
  mulf (mulf (broadcastInDim Cert.ReferenceIdeal.S512x512 ![] Cert.ReferenceIdeal.Facts₀.bcast_S_S512x512 (constant Cert.ReferenceIdeal.S_ .f32 0x3F000000#32)) z)
    (addf (broadcastInDim Cert.ReferenceIdeal.S512x512 ![] Cert.ReferenceIdeal.Facts₀.bcast_S_S512x512 (constant Cert.ReferenceIdeal.S_ .f32 0x3F800000#32))
      (Host.tanh (mulf (broadcastInDim Cert.ReferenceIdeal.S512x512 ![] Cert.ReferenceIdeal.Facts₀.bcast_S_S512x512 (constant Cert.ReferenceIdeal.S_ .f32 0x3F4C422A#32))
        (addf z (mulf (mulf (mulf (broadcastInDim Cert.ReferenceIdeal.S512x512 ![] Cert.ReferenceIdeal.Facts₀.bcast_S_S512x512 (constant Cert.ReferenceIdeal.S_ .f32 0x3D372713#32)) z) z) z)))))

/-- The reference's product. -/
def wholeProduct (X : FVec Ideal Cert.ReferenceIdeal.S512x4096 .f32) (Y : FVec Ideal Cert.ReferenceIdeal.S4096x512 .f32) : FVec Ideal Cert.ReferenceIdeal.S512x512 .f32 :=
  Host.dotGeneral Cert.ReferenceIdeal.dot_S512x4096_S4096x512_S512x512_1_0_0_1_n_n none X Y

/-- An entry of the reference's result. -/
theorem ref_apply (X : FVec Ideal Cert.ReferenceIdeal.S512x4096 .f32) (Y : FVec Ideal Cert.ReferenceIdeal.S4096x512 .f32) (i j : Fin 512) :
    (refOut (wholeProduct X Y) (ix2 i j) : EReal) = gelu1 (∑ k : Fin 4096, (X (ix2 i k) : EReal) * Y (ix2 k j)) := by
  pointwise [refOut, wholeProduct, gelu1]

/-! ## The two results agree -/

variable (m : (ℓ : Loc nD τ sig) → Buf (Elt Ideal) ℓ) (ρ : Dev nD → PrngReg)
  (X : FVec Ideal Cert.ReferenceIdeal.S512x4096 .f32) (Y : FVec Ideal Cert.ReferenceIdeal.S4096x512 .f32)

/-- Device `c`'s columns of the first operand. -/
theorem cols_apply (c : Dev nD) (r : Fin 512) (k : Fin 256) :
    Layout.block ⟨2, ![512, 256]⟩ ⟨2, ![512, 4096]⟩ 1 16 c X (by decide) (ix2 r k)
      = X (ix2 r ⟨c.val * 256 + k.val, by have h : c.val < 16 := c.isLt; omega⟩) := by
  rw [Layout.block_apply]
  congr 1
  funext b; apply Fin.ext
  rw [Layout.Tiles.idx_val]
  fin_cases b <;> rfl

/-- Device `c`'s rows of the second operand. -/
theorem rows_block_apply (c : Dev nD) (k : Fin 256) (l : Fin 512) :
    Layout.block ⟨2, ![256, 512]⟩ ⟨2, ![4096, 512]⟩ 0 16 c Y (by decide) (ix2 k l)
      = Y (ix2 ⟨c.val * 256 + k.val, by have h : c.val < 16 := c.isLt; omega⟩ l) := by
  rw [Layout.block_apply]
  congr 1
  funext b; apply Fin.ext
  rw [Layout.Tiles.idx_val]
  fin_cases b <;> rfl

/-- The kernel's result is the reference's. -/
theorem out_eq (hA : ∀ c, xA m ρ c = Layout.block ⟨2, ![512, 256]⟩ ⟨2, ![512, 4096]⟩ 1 16 c X (by decide))
    (hB : ∀ c, xB m ρ c = Layout.block ⟨2, ![256, 512]⟩ ⟨2, ![4096, 512]⟩ 0 16 c Y (by decide)) :
    outAt m ρ = refOut (wholeProduct X Y) := by
  have h (i j : Fin 512) : (outAt m ρ (ix2 i j) : EReal) = refOut (wholeProduct X Y) (ix2 i j) := by
    have hp (d : Dev nD) : (part m ρ d (ix2 i j) : EReal)
        = ∑ k : Fin 256, (X (ix2 i ⟨d.val * 256 + k.val, by have h : d.val < 16 := d.isLt; omega⟩) : EReal)
          * Y (ix2 ⟨d.val * 256 + k.val, by have h : d.val < 16 := d.isLt; omega⟩ j) := by
      unfold part
      refine (product_apply _ _ _ _).trans (Finset.sum_congr (M := EReal) rfl fun k _ => ?_)
      rw [hA, hB, cols_apply, rows_block_apply]
    unfold outAt
    rw [result_apply, ref_apply]
    unfold gAt
    refine (rows_apply _ _ _).trans (congrArg gelu1 ?_)
    rw [Fin.sum_univ_tiles 16 256 rfl]
    refine Finset.sum_congr (M := EReal) rfl fun d _ => ?_
    refine Eq.trans ?_ (hp d)
    unfold rsAt
    congr 1
    refine congrArg (fun r : Fin 512 => ix2 (n0 := 512) (n1 := 512) r j) (Fin.ext ?_)
    show 32 * (i.val / 32) + i.val % 32 = i.val
    omega
  funext x
  have hx : x = ix2 (n0 := 512) (n1 := 512) (show Fin 512 from x 0) (show Fin 512 from x 1) := by
    funext b; fin_cases b <;> rfl
  rw [hx]
  exact h _ _

end Cert.Exchange

end
-- ==== Proof.Claims.lean ====
/-
# The claims

The frames of the three programs and the equation of their values, each read off a run.
-/
module

public import proofs.«01_k».proof.Defs
public import proofs.«01_k».proof.Proof.Value
public import proofs.«01_k».proof.Proof.Gen.Kernel

@[expose] public section

noncomputable section

namespace Cert.Exchange

open Cert.KernelIdeal Cert.KernelIdeal.Gen
open Idealize.ShloMosaic
open Idealize.ShloMosaic.TcCoe
open Idealize.SL.Sem

/-! ## What the windows' arrays end with -/

section Arrays

variable {F : FTy → Type} [FloatOps F] (m : (ℓ : Loc nD τ sig) → Buf (Elt F) ℓ) (ρ : Dev nD → PrngReg)

/-- The first operand's block is the whole array. -/
theorem xA_eq (c : Dev nD) : xA m ρ c = m ((c : Thread nD τ).loc main_arg0) :=
  Memref.read_access_unit_zero (Elt F) main_arg0
    (show (fun a => (win0_0.index (0 : Fin 1)) a * main_arg0.ty.shape.size a) = fun _ => 0 from funext fun a => by fin_cases a <;> decide)
    (fun a => by fin_cases a <;> decide) _

/-- The second operand's block is the whole array. -/
theorem xB_eq (c : Dev nD) : xB m ρ c = m ((c : Thread nD τ).loc main_arg1) :=
  Memref.read_access_unit_zero (Elt F) main_arg1
    (show (fun a => (win0_1.index (0 : Fin 1)) a * main_arg1.ty.shape.size a) = fun _ => 0 from funext fun a => by fin_cases a <;> decide)
    (fun a => by fin_cases a <;> decide) _

/-- The result array ends with what the body stored. -/
theorem final_out (c : Dev nD) : finalA m ρ c (2 : Fin 3) = outAt m ρ := by
  have h : (win0_2.blk (0 : Fin 1)).view.read (Elt F) (finalA m ρ c (2 : Fin 3)) = outAt m ρ := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  refine Eq.trans (Eq.symm ?_) h
  exact Memref.read_access_unit_zero (Elt F) main_v1
    (show (fun a => (win0_2.index (0 : Fin 1)) a * main_v1.ty.shape.size a) = fun _ => 0 from funext fun a => by fin_cases a <;> decide)
    (fun a => by fin_cases a <;> decide) _

/-- The run, read at the three arrays. -/
theorem run_arrays : θ_run defs (onTc (τ := τ) (main (F := F))) ⟨m, fun _ => 0, ρ⟩
    (fun r => (∀ c : Dev nD, r.2.mem ((c : Thread nD τ).loc main_v1) = outAt m ρ
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (final_out m ρ c), (h.1 c (0 : Fin 3)).trans (final_a m ρ c),
    (h.1 c (1 : Fin 3)).trans (final_b m ρ c)⟩, h.2⟩) (run_main m ρ)

end Arrays

/-! ## The claims -/

/-- The run of `KernelIdeal` at the words' arithmetic. -/
theorem frame_words (m : (ℓ : Loc nD τ sig) → Buf (Elt Bits) ℓ) (ρ : Dev nD → PrngReg) :
    θ_run defs (onTc (τ := τ) (main (F := Bits))) ⟨m, fun _ => 0, ρ⟩ (fun r => (∀ c : Dev nD,
        r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run defs _ _).mono (fun _ h => ⟨fun c => (h.1 c).2, h.2⟩) (run_arrays m ρ)

/-- The two programs' tables of bodies are one table. -/
theorem bodies_eq : @Cert.Kernel.defs₀ Bits _ _ = @Cert.KernelIdeal.defs₀ Bits _ _ := by
  funext p l a
  cases p
  · rcases l with ⟨_ | n, hl⟩
    · rfl
    · exact absurd hl (by omega)
  · rfl
  · rfl

/-- With their pipelines, too. -/
theorem tables_eq : @Cert.Kernel.defs Bits _ _ = @Cert.KernelIdeal.defs Bits _ _ :=
  congrArg (Pipeline.defs (Cert.KernelIdeal.pcfgs (F := Bits))) bodies_eq

/-- The kernel's frame: its text is `KernelIdeal`'s, run on words. -/
theorem frame_kernel : Cert.quiescent_Kernel := fun m ρ _ => by
  rw [tables_eq]
  exact frame_words m ρ

/-- The ideal kernel's frame. -/
theorem frame_ideal : Cert.quiescent_KernelIdeal := fun m ρ _ =>
  (θ_run Cert.KernelIdeal.defs _ _).mono (fun _ h => ⟨fun c => (h.1 c).2, h.2⟩) (run_arrays (F := Ideal) m ρ)

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device ends with the reference's whole result. -/
theorem values_agree : Cert.algebraic_KernelIdeal_ReferenceIdeal := fun m ρ m' ρ' _ hin => by
  refine ⟨_, ?_, (θ_run Cert.ReferenceIdeal.defs _ _).mono (fun _ h => h 0) (Cert.ReferenceIdeal.Value.run (F := Ideal) m' ρ')⟩
  refine (θ_run defs _ _).mono (fun _ h c => ⟨(h.1 c).1.trans ?_, (h.1 c).2⟩) (run_arrays (F := Ideal) m ρ)
  exact out_eq m ρ _ _ (fun c => (xA_eq m ρ c).trans (hin c).1) (fun c => (xB_eq m ρ c).trans (hin c).2)

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Exchange.frame_kernel, Cert.Exchange.frame_ideal, Cert.Exchange.frame_reference, trivial, Cert.Exchange.values_agree⟩

end Cert.Proof

end
